-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x2048 : Shape := ⟨3, ![8, 128, 2048]⟩
abbrev S2048x2048 : Shape := ⟨2, ![2048, 2048]⟩
abbrev S2048 : Shape := ⟨1, ![2048]⟩
abbrev S128x8x2048 : Shape := ⟨3, ![128, 8, 2048]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S128x1024 : Shape := ⟨2, ![128, 1024]⟩
abbrev S512x2048 : Shape := ⟨2, ![512, 2048]⟩
abbrev S1x512 : Shape := ⟨2, ![1, 512]⟩
abbrev S128x512 : Shape := ⟨2, ![128, 512]⟩
abbrev S8x128x512 : Shape := ⟨3, ![8, 128, 512]⟩
abbrev S1024x2048 : Shape := ⟨2, ![1024, 2048]⟩
abbrev S1024x512 : Shape := ⟨2, ![1024, 512]⟩
abbrev S1x128x512 : Shape := ⟨3, ![1, 128, 512]⟩

abbrev nBuf : Space → Nat
  | .hbm => 47
  | .vmem => 16
  | .smem => 0
  | _ => 0

abbrev bufTy : (tb : Table) → Fin (tcTables nBuf tb) → BufTy
  | .hbm, ⟨0, _⟩ => ⟨S8x128x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S128x8x2048, .f32⟩
  | .hbm, ⟨8, _⟩ => ⟨S_, .f32⟩
  | .hbm, ⟨9, _⟩ => ⟨S128x2048, .f32⟩
  | .hbm, ⟨10, _⟩ => ⟨S_, .f32⟩
  | .hbm, ⟨11, _⟩ => ⟨S128x2048, .f32⟩
  | .hbm, ⟨12, _⟩ => ⟨S128x2048, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S_, .f32⟩
  | .hbm, ⟨23, _⟩ => ⟨S128, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x2048, .f32⟩
  | .hbm, ⟨29, _⟩ => ⟨S128x2048, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x2048, .f32⟩
  | .hbm, ⟨35, _⟩ => ⟨S128x2048, .f32⟩
  | .hbm, ⟨36, _⟩ => ⟨S1x2048, .f32⟩
  | .hbm, ⟨37, _⟩ => ⟨S128x2048, .f32⟩
  | .hbm, ⟨38, _⟩ => ⟨S128x2048, .f32⟩
  | .hbm, ⟨39, _⟩ => ⟨S1x2048, .f32⟩
  | .hbm, ⟨40, _⟩ => ⟨S128x2048, .f32⟩
  | .hbm, ⟨41, _⟩ => ⟨S128x2048, .f32⟩
  | .hbm, ⟨42, _⟩ => ⟨S1x2048, .f32⟩
  | .hbm, ⟨43, _⟩ => ⟨S1x2048, .f32⟩
  | .hbm, ⟨44, _⟩ => ⟨S128x1024, .i32⟩
  | .hbm, ⟨45, _⟩ => ⟨S128x2048, .f32⟩
  | .hbm, ⟨46, _⟩ => ⟨S8x128x2048, .f32⟩
  | .local _ .vmem, ⟨0, _⟩ => ⟨S128x2048, .f32⟩
  | .local _ .vmem, ⟨1, _⟩ => ⟨S2048x2048, .f32⟩
  | .local _ .vmem, ⟨2, _⟩ => ⟨S1x2048, .f32⟩
  | .local _ .vmem, ⟨3, _⟩ => ⟨S2048x2048, .f32⟩
  | .local _ .vmem, ⟨4, _⟩ => ⟨S1x2048, .f32⟩
  | .local _ .vmem, ⟨5, _⟩ => ⟨S128x1024, .i32⟩
  | .local _ .vmem, ⟨6, _⟩ => ⟨S128x2048, .f32⟩
  | .local _ .vmem, ⟨7, _⟩ => ⟨S8x128x2048, .f32⟩
  | .local _ .vmem, ⟨8, _⟩ => ⟨S512x2048, .f32⟩
  | .local _ .vmem, ⟨9, _⟩ => ⟨S512x2048, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .vmem, ⟨14, _⟩ => ⟨S8x128x512, .f32⟩
  | .local _ .vmem, ⟨15, _⟩ => ⟨S8x128x512, .f32⟩
  | _, _ => ⟨S8x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_cst_0 : Ref sig .tc := ⟨.hbm, 10, rfl⟩
abbrev main_call0_v2 : Ref sig .tc := ⟨.hbm, 11, rfl⟩
abbrev main_call0_v3 : Ref sig .tc := ⟨.hbm, 12, rfl⟩
abbrev main_call0_cst_1 : Ref sig .tc := ⟨.hbm, 13, rfl⟩
abbrev main_call0_v4 : Ref sig .tc := ⟨.hbm, 14, rfl⟩
abbrev main_call0_v5 : Ref sig .tc := ⟨.hbm, 15, rfl⟩
abbrev main_call0_cst_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_cst_3 : Ref sig .tc := ⟨.hbm, 22, rfl⟩
abbrev main_call0_v11 : Ref sig .tc := ⟨.hbm, 23, rfl⟩
abbrev main_call0_v12 : Ref sig .tc := ⟨.hbm, 24, rfl⟩
abbrev main_call0_cst_4 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_cst_5 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_v0_1 : Ref sig .tc := ⟨.hbm, 44, rfl⟩
abbrev main_call0_v30_1 : Ref sig .tc := ⟨.hbm, 45, rfl⟩
abbrev main_v0_0 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S8x128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8x128x2048 : Shape := ⟨3, ![8, 128, 2048]⟩
abbrev S2048x2048 : Shape := ⟨2, ![2048, 2048]⟩
abbrev S2048 : Shape := ⟨1, ![2048]⟩
abbrev S128x8x2048 : Shape := ⟨3, ![128, 8, 2048]⟩
abbrev S_ : Shape := ⟨0, ![]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S128x1024 : Shape := ⟨2, ![128, 1024]⟩
abbrev S128x1024x1 : Shape := ⟨3, ![128, 1024, 1]⟩
abbrev S128x1024x2048 : Shape := ⟨3, ![128, 1024, 2048]⟩
abbrev S128x1024x8 : Shape := ⟨3, ![128, 1024, 8]⟩
abbrev S128x2048x8 : Shape := ⟨3, ![128, 2048, 8]⟩
abbrev S128x1024x2 : Shape := ⟨3, ![128, 1024, 2]⟩

abbrev nBuf : Space → Nat
  | .hbm => 103
  | .vmem => 0
  | .smem => 0
  | _ => 0

abbrev bufTy : (tb : Table) → Fin (tcTables nBuf tb) → BufTy
  | .hbm, ⟨0, _⟩ => ⟨S8x128x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S128x8x2048, .f32⟩
  | .hbm, ⟨8, _⟩ => ⟨S_, .f32⟩
  | .hbm, ⟨9, _⟩ => ⟨S128x2048, .f32⟩
  | .hbm, ⟨10, _⟩ => ⟨S_, .f32⟩
  | .hbm, ⟨11, _⟩ => ⟨S128x2048, .f32⟩
  | .hbm, ⟨12, _⟩ => ⟨S128x2048, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S_, .f32⟩
  | .hbm, ⟨23, _⟩ => ⟨S128, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x2048, .f32⟩
  | .hbm, ⟨29, _⟩ => ⟨S128x2048, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x2048, .f32⟩
  | .hbm, ⟨35, _⟩ => ⟨S128x2048, .f32⟩
  | .hbm, ⟨36, _⟩ => ⟨S1x2048, .f32⟩
  | .hbm, ⟨37, _⟩ => ⟨S128x2048, .f32⟩
  | .hbm, ⟨38, _⟩ => ⟨S128x2048, .f32⟩
  | .hbm, ⟨39, _⟩ => ⟨S1x2048, .f32⟩
  | .hbm, ⟨40, _⟩ => ⟨S128x2048, .f32⟩
  | .hbm, ⟨41, _⟩ => ⟨S128x2048, .f32⟩
  | .hbm, ⟨42, _⟩ => ⟨S2048x2048, .f32⟩
  | .hbm, ⟨43, _⟩ => ⟨S128x2048, .f32⟩
  | .hbm, ⟨44, _⟩ => ⟨S1x2048, .f32⟩
  | .hbm, ⟨45, _⟩ => ⟨S128x2048, .f32⟩
  | .hbm, ⟨46, _⟩ => ⟨S128x2048, .f32⟩
  | .hbm, ⟨47, _⟩ => ⟨S2048x2048, .f32⟩
  | .hbm, ⟨48, _⟩ => ⟨S128x2048, .f32⟩
  | .hbm, ⟨49, _⟩ => ⟨S1x2048, .f32⟩
  | .hbm, ⟨50, _⟩ => ⟨S128x2048, .f32⟩
  | .hbm, ⟨51, _⟩ => ⟨S128x2048, .f32⟩
  | .hbm, ⟨52, _⟩ => ⟨S_, .f32⟩
  | .hbm, ⟨53, _⟩ => ⟨S128x2048, .f32⟩
  | .hbm, ⟨54, _⟩ => ⟨S128x2048, .f32⟩
  | .hbm, ⟨55, _⟩ => ⟨S128x1024, .f32⟩
  | .hbm, ⟨56, _⟩ => ⟨S128x1024, .i32⟩
  | .hbm, ⟨57, _⟩ => ⟨S_, .i32⟩
  | .hbm, ⟨58, _⟩ => ⟨S128x1024, .i32⟩
  | .hbm, ⟨59, _⟩ => ⟨S128x1024, .i1⟩
  | .hbm, ⟨60, _⟩ => ⟨S_, .i32⟩
  | .hbm, ⟨61, _⟩ => ⟨S128x1024, .i32⟩
  | .hbm, ⟨62, _⟩ => ⟨S128x1024, .i32⟩
  | .hbm, ⟨63, _⟩ => ⟨S128x1024, .i32⟩
  | .hbm, ⟨64, _⟩ => ⟨S128x1024x1, .i32⟩
  | .hbm, ⟨65, _⟩ => ⟨S128x1024x2048, .f32⟩
  | .hbm, ⟨66, _⟩ => ⟨S128x1024x8, .f32⟩
  | .hbm, ⟨67, _⟩ => ⟨S_, .i32⟩
  | .hbm, ⟨68, _⟩ => ⟨S128x1024, .i32⟩
  | .hbm, ⟨69, _⟩ => ⟨S128x1024, .i1⟩
  | .hbm, ⟨70, _⟩ => ⟨S_, .i32⟩
  | .hbm, ⟨71, _⟩ => ⟨S128x1024, .i32⟩
  | .hbm, ⟨72, _⟩ => ⟨S128x1024, .i32⟩
  | .hbm, ⟨73, _⟩ => ⟨S128x1024, .i32⟩
  | .hbm, ⟨74, _⟩ => ⟨S128x1024x1, .i32⟩
  | .hbm, ⟨75, _⟩ => ⟨S128x1024, .f32⟩
  | .hbm, ⟨76, _⟩ => ⟨S128x1024x1, .f32⟩
  | .hbm, ⟨77, _⟩ => ⟨S128x1024x8, .f32⟩
  | .hbm, ⟨78, _⟩ => ⟨S128x1024x8, .f32⟩
  | .hbm, ⟨79, _⟩ => ⟨S_, .f32⟩
  | .hbm, ⟨80, _⟩ => ⟨S128x2048x8, .f32⟩
  | .hbm, ⟨81, _⟩ => ⟨S128, .i32⟩
  | .hbm, ⟨82, _⟩ => ⟨S128x1, .i32⟩
  | .hbm, ⟨83, _⟩ => ⟨S_, .i32⟩
  | .hbm, ⟨84, _⟩ => ⟨S128x1, .i32⟩
  | .hbm, ⟨85, _⟩ => ⟨S128x1, .i1⟩
  | .hbm, ⟨86, _⟩ => ⟨S_, .i32⟩
  | .hbm, ⟨87, _⟩ => ⟨S128x1, .i32⟩
  | .hbm, ⟨88, _⟩ => ⟨S128x1, .i32⟩
  | .hbm, ⟨89, _⟩ => ⟨S128x1, .i32⟩
  | .hbm, ⟨90, _⟩ => ⟨S_, .i32⟩
  | .hbm, ⟨91, _⟩ => ⟨S128x1024, .i32⟩
  | .hbm, ⟨92, _⟩ => ⟨S128x1024, .i1⟩
  | .hbm, ⟨93, _⟩ => ⟨S_, .i32⟩
  | .hbm, ⟨94, _⟩ => ⟨S128x1024, .i32⟩
  | .hbm, ⟨95, _⟩ => ⟨S128x1024, .i32⟩
  | .hbm, ⟨96, _⟩ => ⟨S128x1024, .i32⟩
  | .hbm, ⟨97, _⟩ => ⟨S128x1024, .i32⟩
  | .hbm, ⟨98, _⟩ => ⟨S128x1024x1, .i32⟩
  | .hbm, ⟨99, _⟩ => ⟨S128x1024x1, .i32⟩
  | .hbm, ⟨100, _⟩ => ⟨S128x1024x2, .i32⟩
  | .hbm, ⟨101, _⟩ => ⟨S128x2048x8, .f32⟩
  | .hbm, ⟨102, _⟩ => ⟨S8x128x2048, .f32⟩
  | _, _ => ⟨S8x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_values : Ref sig .tc := ⟨.hbm, 55, rfl⟩
abbrev main_indices : Ref sig .tc := ⟨.hbm, 56, rfl⟩
abbrev main_c : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Proof.Stage.lean ====
/-
  The printed sort of the gating kernel as ONE stage, used 66 times. The kernel sorts the pairs (logit, position) of each row by
  Batcher's bitonic network: 66 compare-exchange stages, each a handful of vector operations over the whole array. Here the
  stage is a function of its two distances (`stageP`), the network is the stages in the kernel's order (`netP`), and the two
  arrays the kernel stores — the index block and the mask — are read off the sorted pair. The theorems `pieces5` and `pieces6` say
  that these are exactly what the kernel's run stores, at any float instance.
-/
module

public import proofs.«01_k».proof.Proof.Gen.KernelIdeal.Frame

@[expose] public section

set_option maxRecDepth 65536

noncomputable section

namespace Cert.KernelIdeal.Val

open Idealize.ShloMosaic Idealize.ShloMosaic.TcCoe Idealize.SL.Sem Cert.KernelIdeal.Gen

variable {F : FTy → Type} [FloatOps F]

/-- Each element's position in its row. -/
def lane : IVec S128x2048 32 := iota .tc S128x2048 32 [1] iota_S128x2048_d1_w32

/-- The mask "the position has none of the bits `j`": the lower position of an exchange at distance `j`. -/
def lowP (j : BitVec 32) : IVec S128x2048 1 := cmpi .eq (andi lane (broadcast S128x2048 j)) (broadcast S128x2048 0#32)

/-- The mask "the position has one of the bits `k`": the blocks that a stage sorts ascending. -/
def ascP (k : BitVec 32) : IVec S128x2048 1 := cmpi .ne (andi lane (broadcast S128x2048 k)) (broadcast S128x2048 0#32)

/-- The partner's element at every position: a rotate one way at the lower positions, the other way at the upper ones. -/
def partP {α : Type} (j : BitVec 32) (v : S128x2048.Idx → α) : S128x2048.Idx → α :=
  select (lowP j) (dynamicRotate 1 (2048#32 - j) none v rotates_S128x2048_d1) (dynamicRotate 1 j none v rotates_S128x2048_d1)

/-- The mask "this position keeps its own pair". -/
def takeP (k j : BitVec 32) (v : FVec F S128x2048 .f32) (i : IVec S128x2048 32) : IVec S128x2048 1 :=
  xori (xori (ori (cmpf .ogt v (partP j v)) (andi (cmpf .oeq v (partP j v)) (cmpi .slt i (partP j i))))
    (xori (lowP j) (constantI S128x2048 1 1#1))) (ascP k)

/-- One compare-exchange stage at distance `j`, inside blocks of `k`, on values and positions. -/
def stageP (s : FVec F S128x2048 .f32 × IVec S128x2048 32) (kj : BitVec 32 × BitVec 32) :
    FVec F S128x2048 .f32 × IVec S128x2048 32 :=
  (select (takeP kj.1 kj.2 s.1 s.2) s.1 (partP kj.2 s.1), select (takeP kj.1 kj.2 s.1 s.2) s.2 (partP kj.2 s.2))

/-- The stages in the kernel's order: the block size and the distance. -/
def stagesP : List (BitVec 32 × BitVec 32) :=
  [(2#32, 1#32),
   (4#32, 2#32), (4#32, 1#32),
   (8#32, 4#32), (8#32, 2#32), (8#32, 1#32),
   (16#32, 8#32), (16#32, 4#32), (16#32, 2#32), (16#32, 1#32),
   (32#32, 16#32), (32#32, 8#32), (32#32, 4#32), (32#32, 2#32), (32#32, 1#32),
   (64#32, 32#32), (64#32, 16#32), (64#32, 8#32), (64#32, 4#32), (64#32, 2#32), (64#32, 1#32),
   (128#32, 64#32), (128#32, 32#32), (128#32, 16#32), (128#32, 8#32), (128#32, 4#32), (128#32, 2#32), (128#32, 1#32),
   (256#32, 128#32), (256#32, 64#32), (256#32, 32#32), (256#32, 16#32), (256#32, 8#32), (256#32, 4#32), (256#32, 2#32), (256#32, 1#32),
   (512#32, 256#32), (512#32, 128#32), (512#32, 64#32), (512#32, 32#32), (512#32, 16#32), (512#32, 8#32), (512#32, 4#32), (512#32, 2#32), (512#32, 1#32),
   (1024#32, 512#32), (1024#32, 256#32), (1024#32, 128#32), (1024#32, 64#32), (1024#32, 32#32), (1024#32, 16#32), (1024#32, 8#32), (1024#32, 4#32), (1024#32, 2#32), (1024#32, 1#32),
   (2048#32, 1024#32), (2048#32, 512#32), (2048#32, 256#32), (2048#32, 128#32), (2048#32, 64#32), (2048#32, 32#32), (2048#32, 16#32), (2048#32, 8#32), (2048#32, 4#32), (2048#32, 2#32), (2048#32, 1#32)]

/-- The whole network on values, positions starting as themselves. -/
def netP (v : FVec F S128x2048 .f32) : FVec F S128x2048 .f32 × IVec S128x2048 32 := stagesP.foldl stageP (v, lane)

/-- The logits as the kernel computes them. -/
def logitsP (x0 : Vec F S128x2048 .f32) (x1 : Vec F S2048x2048 .f32) (x2 : Vec F S1x2048 .f32) (x3 : Vec F S2048x2048 .f32)
    (x4 : Vec F S1x2048 .f32) : FVec F S128x2048 .f32 := k0_pay2 x0 x1 x2 x3 x4

/-- The index block: the first 1024 sorted positions of each row. -/
def idxP (s : FVec F S128x2048 .f32 × IVec S128x2048 32) : IVec S128x1024 32 :=
  extractStridedSlice S128x1024 ![0, 0] s.2 slices_S128x2048_o0_0_S128x1024

/-- The mask: 1 where a logit beats, or ties at no later a position with, the row's 1024th sorted pair; else 0. -/
def maskP (v : FVec F S128x2048 .f32) (s : FVec F S128x2048 .f32 × IVec S128x2048 32) : FVec F S128x2048 .f32 :=
  k0_pay1 v lane (extractStridedSlice S128x1 ![0, 1023] s.1 slices_S128x2048_o0_1023_S128x1)
    (extractStridedSlice S128x1 ![0, 1023] s.2 slices_S128x2048_o0_1023_S128x1)
    (cmpf .ogt v (broadcastTo S128x2048 (extractStridedSlice S128x1 ![0, 1023] s.1 slices_S128x2048_o0_1023_S128x1) broadcasts_S128x1_S128x2048))

variable (c : Dev nD) (arg0 : Memref sig .tc .vmem S128x2048 .f32) (harg0 : arg0.IsWhole) (arg1 : Memref sig .tc .vmem S2048x2048 .f32)
  (harg1 : arg1.IsWhole) (arg2 : Memref sig .tc .vmem S1x2048 .f32) (harg2 : arg2.IsWhole) (arg3 : Memref sig .tc .vmem S2048x2048 .f32)
  (harg3 : arg3.IsWhole) (arg4 : Memref sig .tc .vmem S1x2048 .f32) (harg4 : arg4.IsWhole) (arg5 : Memref sig .tc .vmem S128x1024 .i32)
  (harg5 : arg5.IsWhole) (arg6 : Memref sig .tc .vmem S128x2048 .f32) (harg6 : arg6.IsWhole)
  (x0 : Vec F S128x2048 .f32) (x1 : Vec F S2048x2048 .f32) (x2 : Vec F S1x2048 .f32) (x3 : Vec F S2048x2048 .f32) (x4 : Vec F S1x2048 .f32)

/-- The run stores one index block: the first sorted positions of the logits it computed. -/
theorem pieces5 : (kernelRun0_A c arg0 harg0 arg1 harg1 arg2 harg2 arg3 harg3 arg4 harg4 arg5 harg5 arg6 harg6 x0 x1 x2 x3 x4).1
    = [⟨Rect.unit ![0, 0] S128x1024.size inb_S128x1024_S128x1024_0_0,
        idxP (netP (kernelRun0_A.sl.r c arg0 harg0 arg1 harg1 arg2 harg2 arg3 harg3 arg4 harg4 x0 x1 x2 x3 x4))⟩] := by
  sl_kernel_rfl

/-- The run stores one mask. -/
theorem pieces6 : (kernelRun0_A c arg0 harg0 arg1 harg1 arg2 harg2 arg3 harg3 arg4 harg4 arg5 harg5 arg6 harg6 x0 x1 x2 x3 x4).2.1
    = [⟨Rect.unit ![0, 0] S128x2048.size inb_S128x2048_S128x2048_0_0,
        maskP (kernelRun0_A.sl.r c arg0 harg0 arg1 harg1 arg2 harg2 arg3 harg3 arg4 harg4 x0 x1 x2 x3 x4)
          (netP (kernelRun0_A.sl.r c arg0 harg0 arg1 harg1 arg2 harg2 arg3 harg3 arg4 harg4 x0 x1 x2 x3 x4))⟩] := by
  sl_kernel_rfl

end Cert.KernelIdeal.Val

end
-- ==== Proof.Gate.lean ====
/-
  What the gating kernel leaves. The kernel has no grid: every window is its whole array, so its two results are the first 1024
  sorted positions and the mask, both of the logits of the arrays it was given.
-/
module

public import proofs.«01_k».proof.Proof.Stage
public import Idealize.ShloMosaic.Lib.WholeRead
public import Idealize.ShloMosaic.Lib.Pipeline.ValueKit.Geometry

@[expose] public section

set_option maxRecDepth 65536

noncomputable section

namespace Cert.KernelIdeal.Val

open Idealize.ShloMosaic Idealize.ShloMosaic.TcCoe Idealize.SL.Sem Cert.KernelIdeal.Gen

variable {F : FTy → Type} [FloatOps F]

/-- Two zero offsets, as a function. -/
theorem hz : (![0, 0] : Fin 2 → Nat) = fun _ => 0 := funext fun a => by fin_cases a <;> rfl

/-- Reading a whole buffer through a view of its own shape reads its contents. -/
theorem read_reshape_self {s : Shape} {e : EltTy} {sp : Space} (a : Memref sig .tc sp s e) (h : a.IsWhole) (hn : s.numel = s.numel)
    (x : s.Idx → Elt F e) : (a.view.reshape s hn).read (Elt F) (h.unread x) = x := by
  funext i
  refine Eq.trans (?_ : _ = a.view.read (Elt F) (h.unread x) (Shape.reshapeEquiv hn i)) ?_
  · rfl
  · rw [h.read_unread, Shape.reshapeEquiv_self]

variable (c : Dev nD) (arg0 : Memref sig .tc .vmem S128x2048 .f32) (harg0 : arg0.IsWhole) (arg1 : Memref sig .tc .vmem S2048x2048 .f32)
  (harg1 : arg1.IsWhole) (arg2 : Memref sig .tc .vmem S1x2048 .f32) (harg2 : arg2.IsWhole) (arg3 : Memref sig .tc .vmem S2048x2048 .f32)
  (harg3 : arg3.IsWhole) (arg4 : Memref sig .tc .vmem S1x2048 .f32) (harg4 : arg4.IsWhole) (arg5 : Memref sig .tc .vmem S128x1024 .i32)
  (harg5 : arg5.IsWhole) (arg6 : Memref sig .tc .vmem S128x2048 .f32) (harg6 : arg6.IsWhole)
  (x0 : Vec F S128x2048 .f32) (x1 : Vec F S2048x2048 .f32) (x2 : Vec F S1x2048 .f32) (x3 : Vec F S2048x2048 .f32) (x4 : Vec F S1x2048 .f32)

/-- The logits the run computes are those of the five arrays it was given. -/
theorem run_logits : kernelRun0_A.sl.r c arg0 harg0 arg1 harg1 arg2 harg2 arg3 harg3 arg4 harg4 x0 x1 x2 x3 x4
    = logitsP x0 x1 x2 x3 x4 := by
  unfold kernelRun0_A.sl.r kernelRun0_A.sl.v7
  rw [View.readAt_eq_ld, View.readAt_eq_ld, View.readAt_eq_ld, View.readAt_eq_ld, View.readAt_eq_ld, harg0.read_unread,
    harg1.read_unread, harg2.read_unread, harg3.read_unread, View.ld_unit_zero (S := S128x2048) hz,
    View.ld_unit_zero (S := S2048x2048) hz, View.ld_unit_zero (S := S1x2048) hz, View.ld_unit_zero (S := S2048x2048) hz,
    View.ld_unit_zero (S := S1x2048) hz]
  exact congrArg (k0_pay2 x0 x1 x2 x3) (read_reshape_self arg4 harg4 _ x4)

/-- The index block the run leaves. -/
theorem out5_eq : out0_A_5 c arg0 harg0 arg1 harg1 arg2 harg2 arg3 harg3 arg4 harg4 arg5 harg5 arg6 harg6 x0 x1 x2 x3 x4
    = idxP (netP (logitsP x0 x1 x2 x3 x4)) := by
  unfold out0_A_5
  rw [View.read_writes_eq_canon _ _ _ (cover0_A_5 c arg0 harg0 arg1 harg1 arg2 harg2 arg3 harg3 arg4 harg4 arg5 harg5 arg6 harg6 x0 x1 x2 x3 x4),
    pieces5, run_logits]
  exact View.canon_unit_zero (S := S128x1024) hz _ _

/-- The mask the run leaves. -/
theorem out6_eq : out0_A_6 c arg0 harg0 arg1 harg1 arg2 harg2 arg3 harg3 arg4 harg4 arg5 harg5 arg6 harg6 x0 x1 x2 x3 x4
    = maskP (logitsP x0 x1 x2 x3 x4) (netP (logitsP x0 x1 x2 x3 x4)) := by
  unfold out0_A_6
  rw [View.read_writes_eq_canon _ _ _ (cover0_A_6 c arg0 harg0 arg1 harg1 arg2 harg2 arg3 harg3 arg4 harg4 arg5 harg5 arg6 harg6 x0 x1 x2 x3 x4),
    pieces6, run_logits]
  exact View.canon_unit_zero (S := S128x2048) hz _ _

section Arrays

variable (V : (c : Dev nD) → (b : Ref sig .tc) → Buf (Elt F) ((c : Thread nD τ).loc b)) (d : Dev nD)

/-- Each input window's one block is its whole array. -/
theorem block0 (t : Fin cfg0.N) : (iblk0 V d 0 t : Vec F S128x2048 .f32) = V d main_call0_v27 := by
  unfold iblk0
  exact Memref.read_access_unit_zero (Elt F) main_call0_v27 (off := fun a => 0 * S128x2048.size a) (funext fun a => Nat.zero_mul _) _ _

/-- The layer weight's block is the weight. -/
theorem block1 (t : Fin cfg0.N) : (iblk0 V d 1 t : Vec F S2048x2048 .f32) = V d main_arg1 := by
  unfold iblk0
  exact Memref.read_access_unit_zero (Elt F) main_arg1 (off := fun a => 0 * S2048x2048.size a) (funext fun a => Nat.zero_mul _) _ _

/-- The layer bias's block is the bias row. -/
theorem block2 (t : Fin cfg0.N) : (iblk0 V d 2 t : Vec F S1x2048 .f32) = V d main_call0_v28 := by
  unfold iblk0
  exact Memref.read_access_unit_zero (Elt F) main_call0_v28 (off := fun a => 0 * S1x2048.size a) (funext fun a => Nat.zero_mul _) _ _

/-- The gate weight's block is the weight. -/
theorem block3 (t : Fin cfg0.N) : (iblk0 V d 3 t : Vec F S2048x2048 .f32) = V d main_arg5 := by
  unfold iblk0
  exact Memref.read_access_unit_zero (Elt F) main_arg5 (off := fun a => 0 * S2048x2048.size a) (funext fun a => Nat.zero_mul _) _ _

/-- The gate bias's block is the bias row. -/
theorem block4 (t : Fin cfg0.N) : (iblk0 V d 4 t : Vec F S1x2048 .f32) = V d main_call0_v29 := by
  unfold iblk0
  exact Memref.read_access_unit_zero (Elt F) main_call0_v29 (off := fun a => 0 * S1x2048.size a) (funext fun a => Nat.zero_mul _) _ _

/-- The logits of the arrays the gating kernel reads. -/
def gateLogits : FVec F S128x2048 .f32 :=
  logitsP (V d main_call0_v27) (V d main_arg1) (V d main_call0_v28) (V d main_arg5) (V d main_call0_v29)

/-- What the body leaves in its two result buffers: the index block and the mask of the logits. -/
theorem outs_eq (t : Fin cfg0.N) :
    outsAt0 V d t = (idxP (netP (gateLogits V d)), maskP (gateLogits V d) (netP (gateLogits V d))) := by
  unfold outsAt0 gateLogits
  rw [out5_eq, out6_eq, block0, block1, block2, block3, block4]

/-- The index array after the kernel. -/
theorem final_idx : (dat0 V d).arrAt 5 cfg0.N = idxP (netP (gateLogits V d)) := by
  refine (dat0 V d).arrAt_eq_of_covers 5 _ (by decide +kernel) fun t hf y => ?_
  rw [after0_5, outs_eq]
  refine congrArg (idxP (netP (gateLogits V d))) (funext fun a => Fin.ext ?_)
  blk_simp
  exact ((congrArg (· + (y a : Nat)) (Nat.zero_mul (win0_5.size a))).trans (Nat.zero_add _)).symm

/-- The mask after the kernel. -/
theorem final_mask : (dat0 V d).arrAt 6 cfg0.N = maskP (gateLogits V d) (netP (gateLogits V d)) := by
  refine (dat0 V d).arrAt_eq_of_covers 6 _ (by decide +kernel) fun t hf y => ?_
  rw [after0_6, outs_eq]
  refine congrArg (maskP (gateLogits V d) (netP (gateLogits V d))) (funext fun a => Fin.ext ?_)
  blk_simp
  exact ((congrArg (· + (y a : Nat)) (Nat.zero_mul (win0_6.size a))).trans (Nat.zero_add _)).symm

end Arrays

end Cert.KernelIdeal.Val

end
-- ==== Proof.RefFns.lean ====
/-
  The reference's two results as functions of its seven arguments, stage by stage: the normalized mean over the first axis
  (`xnormR`), the logits (`logitsR`), the top-k index words (`idxR`), the gathered rows' products (`prodR`) and their scatter
  (`outR`). `res_indices_eq` and `res_out_eq` say that the reference run's results are these functions of the arguments.
-/
module

public import proofs.«01_k».proof.Proof.Gen.ReferenceIdeal.Run
public import Idealize.ShloMosaic.PureOps.Ideal.Laws

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
  Idealize.ShloMosaic.StableHlo

/-- The mean over the first axis, row by row. -/
def avgR (x : FVec Ideal S8x128x2048 .f32) : FVec Ideal S128x2048 .f32 :=
  Host.divf (Host.reduceAdd (transpose S128x8x2048 [1, 0, 2] x transposes_S8x128x2048_S128x8x2048_1_0_2) (constant S_ .f32 0x00000000#32)
    reducesTo_S128x8x2048_S128x2048_d1 h_S_) (broadcastInDim S128x2048 ![] bcast_S_S128x2048 (constant S_ .f32 0x41000000#32))

/-- A row sum over 2048 divided by 2048, kept as a column. -/
def rowMeanR (v : FVec Ideal S128x2048 .f32) : FVec Ideal S128x1 .f32 :=
  Host.divf (broadcastInDim S128x1 ![0] bcast_S128_S128x1_0 (Host.reduceAdd v (constant S_ .f32 0x00000000#32)
    reducesTo_S128x2048_S128_d1 h_S_)) (broadcastInDim S128x1 ![] bcast_S_S128x1 (constant S_ .f32 0x45000000#32))

/-- The deviations from the row mean. -/
def devR (v : FVec Ideal S128x2048 .f32) : FVec Ideal S128x2048 .f32 :=
  subf v (broadcastInDim S128x2048 ![0, 1] bcast_S128x1_S128x2048_0_1 (rowMeanR v))

/-- A vector over the second axis, repeated on every row. -/
def rowsR (b : FVec Ideal S2048 .f32) : FVec Ideal S128x2048 .f32 :=
  broadcastInDim S128x2048 ![0, 1] bcast_S1x2048_S128x2048_0_1 (broadcastInDim S1x2048 ![1] bcast_S2048_S1x2048_1 b)

/-- The layer-normalized mean. -/
def xnormR (x : FVec Ideal S8x128x2048 .f32) (ga be : FVec Ideal S2048 .f32) : FVec Ideal S128x2048 .f32 :=
  addf (mulf (Host.divf (devR (avgR x)) (broadcastInDim S128x2048 ![0, 1] bcast_S128x1_S128x2048_0_1
    (Host.sqrt (addf (rowMeanR (mulf (devR (avgR x)) (devR (avgR x))))
      (broadcastInDim S128x1 ![] bcast_S_S128x1 (constant S_ .f32 0x3727C5AC#32)))))) (rowsR ga)) (rowsR be)

/-- One dense layer of the gate: `v · wᵀ + b`. -/
def denseR (v : FVec Ideal S128x2048 .f32) (w : FVec Ideal S2048x2048 .f32) (b : FVec Ideal S2048 .f32) : FVec Ideal S128x2048 .f32 :=
  addf (Host.dotGeneral dot_S128x2048_S2048x2048_S128x2048_1_0_0_1_n_n none v
    (transpose S2048x2048 [1, 0] w transposes_S2048x2048_S2048x2048_1_0)) (rowsR b)

/-- The logits: two dense layers and a relu. -/
def logitsR (xn : FVec Ideal S128x2048 .f32) (lw : FVec Ideal S2048x2048 .f32) (lb : FVec Ideal S2048 .f32)
    (W1 : FVec Ideal S2048x2048 .f32) (b1 : FVec Ideal S2048 .f32) : FVec Ideal S128x2048 .f32 :=
  maximumf (denseR (denseR xn lw lb) W1 b1) (broadcastInDim S128x2048 ![] bcast_S_S128x2048 (constant S_ .f32 0x00000000#32))

/-- The top-k index words. -/
def idxR (v : FVec Ideal S128x2048 .f32) : IVec S128x1024 32 :=
  (Host.topK S128x1024 1 (FloatOps.cmpfTotal .gt) v sliceFits_S128x2048_S128x1024).2

/-- The index words wrapped at 2048, one to a start index. -/
def startR (i : IVec S128x1024 32) : IVec S128x1024x1 32 :=
  broadcastInDim S128x1024x1 ![0, 1] bcast_S128x1024_S128x1024x1_0_1
    (select (cmpi .slt i (broadcastInDim S128x1024 ![] bcast_S_S128x1024 (constantI S_ 32 0#32)))
      (addi i (broadcastInDim S128x1024 ![] bcast_S_S128x1024 (constantI S_ 32 2048#32))) i)

/-- The row numbers, one to a scatter index. -/
def rowIdxR : IVec S128x1024x1 32 :=
  broadcastInDim S128x1024x1 ![0, 1] bcast_S128x1024_S128x1024x1_0_1 (broadcastInDim S128x1024 ![0, 1] bcast_S128x1_S128x1024_0_1
    (select (cmpi .slt (broadcastInDim S128x1 ![0] bcast_S128_S128x1_0 (iotaInDim S128 32 0))
        (broadcastInDim S128x1 ![] bcast_S_S128x1 (constantI S_ 32 0#32)))
      (addi (broadcastInDim S128x1 ![0] bcast_S128_S128x1_0 (iotaInDim S128 32 0))
        (broadcastInDim S128x1 ![] bcast_S_S128x1 (constantI S_ 32 128#32)))
      (broadcastInDim S128x1 ![0] bcast_S128_S128x1_0 (iotaInDim S128 32 0))))

/-- The chosen rows of the layer applied to the input. -/
def prodR (x : FVec Ideal S8x128x2048 .f32) (lw : FVec Ideal S2048x2048 .f32) (lb : FVec Ideal S2048 .f32) (i : IVec S128x1024x1 32) :
    FVec Ideal S128x1024x8 .f32 :=
  addf (Host.dotGeneral dot_S128x1024x2048_S128x8x2048_S128x1024x8_2_2_1_1_0_0 none
      (Host.gather gather_S2048x2048_S128x1024x1_S128x1024x2048_2_0_n_n_0_2_12048 lw i)
      (transpose S128x8x2048 [1, 0, 2] x transposes_S8x128x2048_S128x8x2048_1_0_2))
    (broadcastInDim S128x1024x8 ![0, 1, 2] bcast_S128x1024x1_S128x1024x8_0_1_2 (broadcastInDim S128x1024x1 ![0, 1]
      bcast_S128x1024_S128x1024x1_0_1 (Host.gather gather_S2048_S128x1024x1_S128x1024_n_0_n_n_0_2_1 lb i)))

/-- The products scattered into zeros at (row, chosen position). -/
def scatR (i : IVec S128x1024x1 32) (p : FVec Ideal S128x1024x8 .f32) : FVec Ideal S128x2048x8 .f32 :=
  Host.scatter scatter_S128x2048x8_S128x1024x2_S128x1024x8_2_01_01_2 (fun _ b => b)
    (broadcastInDim S128x2048x8 ![] bcast_S_S128x2048x8 (constant S_ .f32 0x00000000#32))
    (concatenate S128x1024x2 2 [⟨S128x1024x1, rowIdxR⟩, ⟨S128x1024x1, i⟩] concatenates_S128x1024x1_S128x1024x1_S128x1024x2_d2) p

/-- The result array. -/
def outR (x : FVec Ideal S8x128x2048 .f32) (lw : FVec Ideal S2048x2048 .f32) (lb : FVec Ideal S2048 .f32) (i : IVec S128x1024 32) :
    FVec Ideal S8x128x2048 .f32 :=
  transpose S8x128x2048 [2, 0, 1] (scatR (startR i) (prodR x lw lb (startR i))) transposes_S128x2048x8_S8x128x2048_2_0_1

variable (m : (ℓ : Loc nD τ sig) → Buf (Elt Ideal) ℓ) (c : Dev nD)

/-- The logits of a memory's arguments. -/
def logitsM : FVec Ideal S128x2048 .f32 :=
  logitsR (xnormR (m ((c.tc : Thread nD τ).loc main_arg0)) (m ((c.tc : Thread nD τ).loc main_arg3)) (m ((c.tc : Thread nD τ).loc main_arg4)))
    (m ((c.tc : Thread nD τ).loc main_arg1)) (m ((c.tc : Thread nD τ).loc main_arg2)) (m ((c.tc : Thread nD τ).loc main_arg5))
    (m ((c.tc : Thread nD τ).loc main_arg6))

/-- The reference's index result is the top-k index words of its logits. -/
theorem res_indices_eq : res_main_indices m c = idxR (logitsM m c) := by rfl

/-- The reference's array result is the scatter of the chosen rows' products. -/
theorem res_out_eq : res_main_v75 m c = outR (m ((c.tc : Thread nD τ).loc main_arg0)) (m ((c.tc : Thread nD τ).loc main_arg1))
    (m ((c.tc : Thread nD τ).loc main_arg2)) (idxR (logitsM m c)) := by rfl

end Cert.ReferenceIdeal.Val
-- ==== Proof.RefValue.lean ====
/-
  The reference's array result at an index. When the index words of row `n` are the chosen positions `f n r`, the result at
  (l, n, o) is the layer's value there if `o` is a chosen position of row `n`, and 0 if it is not (`outR_apply`).
-/
module

public import proofs.«01_k».proof.Proof.RefFns
public import Idealize.ShloMosaic.Lib.Routing.OpsPair
public import Idealize.ShloMosaic.Lib.Routing.OpsSet
public import Idealize.ShloMosaic.Lib.MatmulPlain
public import Idealize.ShloMosaic.Lib.ValueIdx
public import Idealize.ShloMosaic.Lib.ValueLayout
public import Idealize.ShloMosaic.Lib.WordCmp
public import Idealize.ShloMosaic.Lib.Pointwise.Index
public import Idealize.ShloMosaic.Lib.Pipeline.Value

@[expose] public section

set_option maxRecDepth 16384

noncomputable section

namespace Cert.ReferenceIdeal.Val

open Idealize.ShloMosaic hiding ix1 ix2 ix3
open Cert.ReferenceIdeal Cert.ReferenceIdeal.Gen Idealize.ShloMosaic.ValueIdx
open scoped BigOperators

/-- A word below 2^31 read signed is its number. -/
theorem toInt_ofNat {k : Nat} (h : k < 2048) : (BitVec.ofNat 32 k).toInt = (k : Int) := by
  rw [BitVec.toInt_eq_toNat_of_lt (by rw [BitVec.toNat_ofNat]; omega), BitVec.toNat_ofNat]
  congr 1; omega

/-- A small word is not wrapped. -/
theorem wrap_ofNat {k : Nat} (h : k < 2048) (a : BitVec 32) :
    Scalar.select (IntOp.cmpi .slt (BitVec.ofNat 32 k) 0#32) a (BitVec.ofNat 32 k) = BitVec.ofNat 32 k :=
  Routing.wrap_of_lt _ _ (by rw [BitVec.toNat_ofNat]; omega)

/-- The index words hold the positions `f`. -/
def Words (i : IVec S128x1024 32) (f : Fin 128 → Fin 1024 → Fin 2048) : Prop :=
  ∀ n r, i (ix2 n r) = BitVec.ofNat 32 (f n r).val

variable {i : IVec S128x1024 32} {f : Fin 128 → Fin 1024 → Fin 2048}

/-- The start indices are the index words. -/
theorem startR_apply (hi : Words i f) (n : Fin 128) (r : Fin 1024) (z : Fin 1) :
    startR i (ix3 n r z) = BitVec.ofNat 32 (f n r).val := by
  have e : startR i (ix3 n r z) = Scalar.select (IntOp.cmpi .slt (i (ix2 n r)) 0#32) (IntOp.addi (i (ix2 n r)) 2048#32) (i (ix2 n r)) := by
    have h : startR i (ix3 n r z) = select (cmpi .slt i (broadcastInDim S128x1024 ![] bcast_S_S128x1024 (constantI S_ 32 0#32)))
        (addi i (broadcastInDim S128x1024 ![] bcast_S_S128x1024 (constantI S_ 32 2048#32))) i (ix2 n r) :=
      congrArg (select _ _ i) (funext fun a => match a with | ⟨0, _⟩ => rfl | ⟨1, _⟩ => rfl)
    exact h
  rw [e, hi n r]
  exact wrap_ofNat (f n r).isLt _

/-- The row component of a scatter index is the row number. -/
theorem rowIdxR_apply (n : Fin 128) (r : Fin 1024) (z : Fin 1) : rowIdxR (ix3 n r z) = BitVec.ofNat 32 n.val := by
  have e : rowIdxR (ix3 n r z) = Scalar.select (IntOp.cmpi .slt (BitVec.ofNat 32 n.val) 0#32)
      (IntOp.addi (BitVec.ofNat 32 n.val) 128#32) (BitVec.ofNat 32 n.val) := rfl
  rw [e]
  exact wrap_ofNat (by have := n.isLt; omega) _

/-- Two index components of a scatter update, side by side. -/
theorem cat_left (A B : IVec S128x1024x1 32) (n : Fin 128) (r : Fin 1024) :
    concatenate S128x1024x2 2 [⟨S128x1024x1, A⟩, ⟨S128x1024x1, B⟩] concatenates_S128x1024x1_S128x1024x1_S128x1024x2_d2 (ix3 n r 0)
      = A (ix3 n r 0) := by
  refine concatenate_pair_apply_left (t := S128x1024x2) 2 A B concatenates_S128x1024x1_S128x1024x1_S128x1024x2_d2 (ix3 n r 0) rfl
    (ix3 n r 0) fun b => ?_
  match b with
  | ⟨0, _⟩ => rfl
  | ⟨1, _⟩ => rfl
  | ⟨2, _⟩ => rfl

/-- The second of two index components placed side by side. -/
theorem cat_right (A B : IVec S128x1024x1 32) (n : Fin 128) (r : Fin 1024) :
    concatenate S128x1024x2 2 [⟨S128x1024x1, A⟩, ⟨S128x1024x1, B⟩] concatenates_S128x1024x1_S128x1024x1_S128x1024x2_d2 (ix3 n r 1)
      = B (ix3 n r 0) := by
  refine concatenate_pair_apply_right (t := S128x1024x2) 2 A B concatenates_S128x1024x1_S128x1024x1_S128x1024x2_d2 (ix3 n r 1) rfl rfl
    (ix3 n r 0) (fun b hb => ?_) rfl
  match b, hb with
  | ⟨0, _⟩, _ => rfl
  | ⟨1, _⟩, _ => rfl
  | ⟨2, _⟩, hb => exact absurd rfl hb

/-- The first component of a scatter index is the row number. -/
theorem cat_apply0 (n : Fin 128) (r : Fin 1024) : concatenate S128x1024x2 2 [⟨S128x1024x1, rowIdxR⟩, ⟨S128x1024x1, startR i⟩]
    concatenates_S128x1024x1_S128x1024x1_S128x1024x2_d2 (ix3 n r 0) = BitVec.ofNat 32 n.val := by
  rw [cat_left, rowIdxR_apply]

/-- The second component of a scatter index is the chosen position. -/
theorem cat_apply1 (hi : Words i f) (n : Fin 128) (r : Fin 1024) :
    concatenate S128x1024x2 2 [⟨S128x1024x1, rowIdxR⟩, ⟨S128x1024x1, startR i⟩]
      concatenates_S128x1024x1_S128x1024x1_S128x1024x2_d2 (ix3 n r 1) = BitVec.ofNat 32 (f n r).val := by
  rw [cat_right, startR_apply hi]

/-- The chosen rows of the weight. -/
theorem rows_apply (hi : Words i f) (w : FVec Ideal S2048x2048 .f32) (n : Fin 128) (r : Fin 1024) (k : Fin 2048) :
    Host.gather gather_S2048x2048_S128x1024x1_S128x1024x2048_2_0_n_n_0_2_12048 w (startR i) (ix3 n r k) = w (ix2 (f n r) k) := by
  refine congrArg w (funext fun a => Fin.ext ?_)
  have hs : gather_S2048x2048_S128x1024x1_S128x1024x2048_2_0_n_n_0_2_12048.siIdx (ix3 n r k) ⟨0, by decide⟩ = ix3 n r 0 := by
    funext b; match b with | ⟨0, _⟩ => rfl | ⟨1, _⟩ => rfl | ⟨2, _⟩ => rfl
  match a with
  | ⟨0, _⟩ =>
    show min (startR i (gather_S2048x2048_S128x1024x1_S128x1024x2048_2_0_n_n_0_2_12048.siIdx (ix3 n r k) ⟨0, by decide⟩)).toInt.toNat
      2047 + 0 + 0 = (f n r).val
    rw [hs, startR_apply hi, toInt_ofNat (f n r).isLt]
    have := (f n r).isLt; omega
  | ⟨1, _⟩ => exact Nat.zero_add _

/-- The chosen elements of the bias. -/
theorem bias_apply (hi : Words i f) (b : FVec Ideal S2048 .f32) (n : Fin 128) (r : Fin 1024) :
    Host.gather gather_S2048_S128x1024x1_S128x1024_n_0_n_n_0_2_1 b (startR i) (ix2 n r) = b (ix1 (f n r)) := by
  refine congrArg b (funext fun a => Fin.ext ?_)
  have hs : gather_S2048_S128x1024x1_S128x1024_n_0_n_n_0_2_1.siIdx (ix2 n r) ⟨0, by decide⟩ = ix3 n r 0 := by
    funext b; match b with | ⟨0, _⟩ => rfl | ⟨1, _⟩ => rfl | ⟨2, _⟩ => rfl
  match a with
  | ⟨0, _⟩ =>
    show min (startR i (gather_S2048_S128x1024x1_S128x1024_n_0_n_n_0_2_1.siIdx (ix2 n r) ⟨0, by decide⟩)).toInt.toNat
      2047 + 0 + 0 = (f n r).val
    rw [hs, startR_apply hi, toInt_ofNat (f n r).isLt]
    have := (f n r).isLt; omega

/-- The batched product contracts one axis of 2048. -/
theorem dot_apply (lhs : FVec Ideal S128x1024x2048 .f32) (rhs : FVec Ideal S128x8x2048 .f32) (n : Fin 128) (r : Fin 1024) (l : Fin 8) :
    Host.dotGeneral dot_S128x1024x2048_S128x8x2048_S128x1024x8_2_2_1_1_0_0 none lhs rhs (ix3 n r l)
      = ∑ k : Fin 2048, lhs (ix3 n r k) * rhs (ix3 n l k) := by
  let D := dot_S128x1024x2048_S128x8x2048_S128x1024x8_2_2_1_1_0_0
  have hr : D.contr.rank = 1 := rfl
  have hn : D.contr.size ⟨0, by rw [hr]; exact Nat.one_pos⟩ = 2048 := rfl
  show (0 : EReal) + ∑ k : D.contr.Idx, lhs (D.lhsIdx (ix3 n r l) k) * rhs (D.rhsIdx (ix3 n r l) k) = _
  rw [zero_add, ← Equiv.sum_comp (contrEquiv1 D 2048 hr hn).symm]
  refine Finset.sum_congr rfl fun k _ => ?_
  have hk := contrEquiv1_symm_val D 2048 hr hn k
  have el : D.lhsIdx (ix3 n r l) ((contrEquiv1 D 2048 hr hn).symm k) = ix3 n r k := by
    funext a; apply Fin.ext
    match a with
    | ⟨0, _⟩ => rfl
    | ⟨1, _⟩ => rfl
    | ⟨2, _⟩ => exact hk
  have er : D.rhsIdx (ix3 n r l) ((contrEquiv1 D 2048 hr hn).symm k) = ix3 n l k := by
    funext a; apply Fin.ext
    match a with
    | ⟨0, _⟩ => rfl
    | ⟨1, _⟩ => rfl
    | ⟨2, _⟩ => exact hk
  rw [el, er]

/-- The layer's value at (l, n, o). -/
def layer (x : FVec Ideal S8x128x2048 .f32) (w : FVec Ideal S2048x2048 .f32) (b : FVec Ideal S2048 .f32) (l : Fin 8) (n : Fin 128)
    (o : Fin 2048) : EReal := (∑ k : Fin 2048, x (ix3 l n k) * w (ix2 o k)) + b (ix1 o)

/-- The product at (n, r, l) is the layer's value at the position row `n` chose `r`-th. -/
theorem prodR_apply (hi : Words i f) (x : FVec Ideal S8x128x2048 .f32) (w : FVec Ideal S2048x2048 .f32) (b : FVec Ideal S2048 .f32)
    (n : Fin 128) (r : Fin 1024) (l : Fin 8) : prodR x w b (startR i) (ix3 n r l) = layer x w b l n (f n r) := by
  have hx : ∀ k : Fin 2048, transpose S128x8x2048 [1, 0, 2] x transposes_S8x128x2048_S128x8x2048_1_0_2 (ix3 n l k) = x (ix3 l n k) :=
    fun k => congrArg x (funext fun a => match a with | ⟨0, _⟩ => rfl | ⟨1, _⟩ => rfl | ⟨2, _⟩ => rfl)
  refine congrArg₂ (fun a b : EReal => a + b) ?_ ?_
  · rw [dot_apply]
    refine Finset.sum_congr rfl fun k _ => ?_
    rw [rows_apply hi, hx, mul_comm]
  · refine Eq.trans ?_ (bias_apply hi b n r)
    exact congrArg (Host.gather gather_S2048_S128x1024x1_S128x1024_n_0_n_n_0_2_1 b (startR i))
      (funext fun a => match a with | ⟨0, _⟩ => rfl | ⟨1, _⟩ => rfl)

/-- Update (n, r, l) lands at (n', o, l') exactly when n = n', r's position is o and l = l'. -/
theorem lands (hi : Words i f) (n n' : Fin 128) (r : Fin 1024) (l l' : Fin 8) (o : Fin 2048) :
    scatter_S128x2048x8_S128x1024x2_S128x1024x8_2_01_01_2.resultIdx? (ix3 n r l)
        (concatenate S128x1024x2 2 [⟨S128x1024x1, rowIdxR⟩, ⟨S128x1024x1, startR i⟩] concatenates_S128x1024x1_S128x1024x1_S128x1024x2_d2)
        = some (ix3 n' o l') ↔ n = n' ∧ f n r = o ∧ l = l' := by
  let D := scatter_S128x2048x8_S128x1024x2_S128x1024x8_2_01_01_2
  let C := concatenate S128x1024x2 2 [⟨S128x1024x1, rowIdxR⟩, ⟨S128x1024x1, startR i⟩] concatenates_S128x1024x1_S128x1024x1_S128x1024x2_d2
  have s0 : D.siIdx (ix3 n r l) ⟨0, by decide⟩ = ix3 n r 0 := by
    funext b; match b with | ⟨0, _⟩ => rfl | ⟨1, _⟩ => rfl | ⟨2, _⟩ => rfl
  have s1 : D.siIdx (ix3 n r l) ⟨1, by decide⟩ = ix3 n r 1 := by
    funext b; match b with | ⟨0, _⟩ => rfl | ⟨1, _⟩ => rfl | ⟨2, _⟩ => rfl
  have a0 : D.start (ix3 n r l) C 0 = (n.val : Int) := by
    show (C (D.siIdx (ix3 n r l) ⟨0, by decide⟩)).toInt = _
    rw [s0]; exact (congrArg BitVec.toInt (cat_apply0 n r)).trans (toInt_ofNat (by have := n.isLt; omega))
  have a1 : D.start (ix3 n r l) C 1 = ((f n r).val : Int) := by
    show (C (D.siIdx (ix3 n r l) ⟨1, by decide⟩)).toInt = _
    rw [s1]; exact (congrArg BitVec.toInt (cat_apply1 hi n r)).trans (toInt_ofNat (f n r).isLt)
  have a2 : D.start (ix3 n r l) C 2 = 0 := rfl
  have w0 : D.window (ix3 n r l) 0 = 0 := rfl
  have w1 : D.window (ix3 n r l) 1 = 0 := rfl
  have w2 : D.window (ix3 n r l) 2 = l.val := rfl
  rw [Routing.resultIdx?_eq_some]
  constructor
  · intro h
    have h0 : D.start (ix3 n r l) C 0 + (D.window (ix3 n r l) 0 : Int) = (n'.val : Int) := h 0
    have h1 : D.start (ix3 n r l) C 1 + (D.window (ix3 n r l) 1 : Int) = (o.val : Int) := h 1
    have h2 : D.start (ix3 n r l) C 2 + (D.window (ix3 n r l) 2 : Int) = (l'.val : Int) := h 2
    rw [a0, w0] at h0; rw [a1, w1] at h1; rw [a2, w2] at h2
    exact ⟨Fin.ext (by omega), Fin.ext (by omega), Fin.ext (by omega)⟩
  · rintro ⟨rfl, rfl, rfl⟩ a
    match a with
    | ⟨0, _⟩ =>
      show D.start (ix3 n r l) C 0 + (D.window (ix3 n r l) 0 : Int) = (n.val : Int)
      rw [a0, w0]; simp
    | ⟨1, _⟩ =>
      show D.start (ix3 n r l) C 1 + (D.window (ix3 n r l) 1 : Int) = ((f n r).val : Int)
      rw [a1, w1]; simp
    | ⟨2, _⟩ =>
      show D.start (ix3 n r l) C 2 + (D.window (ix3 n r l) 2 : Int) = (l.val : Int)
      rw [a2, w2]; simp

/-- The array result at an index: the layer's value on a chosen position, 0 elsewhere. -/
theorem outR_apply (hi : Words i f) (x : FVec Ideal S8x128x2048 .f32) (w : FVec Ideal S2048x2048 .f32) (b : FVec Ideal S2048 .f32)
    (l : Fin 8) (n : Fin 128) (o : Fin 2048) :
    outR x w b i (ix3 l n o) = if ∃ r, f n r = o then layer x w b l n o else 0 := by
  have ht : ∀ y : FVec Ideal S128x2048x8 .f32,
      transpose S8x128x2048 [2, 0, 1] y transposes_S128x2048x8_S8x128x2048_2_0_1 (ix3 l n o) = y (ix3 n o l) := fun y =>
    congrArg y (funext fun a => match a with | ⟨0, _⟩ => rfl | ⟨1, _⟩ => rfl | ⟨2, _⟩ => rfl)
  have hk : ∀ k : S128x1024x8.Idx, ∃ (a : Fin 128) (r : Fin 1024) (c : Fin 8), k = ix3 a r c := fun k =>
    ⟨k 0, k 1, k 2, funext fun a => match a with | ⟨0, _⟩ => rfl | ⟨1, _⟩ => rfl | ⟨2, _⟩ => rfl⟩
  unfold outR
  rw [ht]
  unfold scatR
  by_cases h : ∃ r, f n r = o
  · rw [if_pos h]
    obtain ⟨r, hr⟩ := h
    refine Routing.scatter_set_hit _ _ _ _ _ _ ?_ (ix3 n r l) ((lands hi n n r l l o).2 ⟨rfl, hr, rfl⟩)
    intro k e
    obtain ⟨a, r', c, rfl⟩ := hk k
    obtain ⟨e0, e1, e2⟩ := (lands hi _ _ _ _ _ _).1 e
    rw [prodR_apply hi, e2, e1, e0]
  · rw [if_neg h]
    refine (Routing.scatter_set_miss _ _ _ _ _ ?_).trans ?_
    · intro k e
      obtain ⟨a, r', c, rfl⟩ := hk k
      obtain ⟨e0, e1, -⟩ := (lands hi _ _ _ _ _ _).1 e
      exact h ⟨r', by rw [← e0]; exact e1⟩
    · exact Ideal.ofBits_zero_f32

end Cert.ReferenceIdeal.Val
-- ==== Proof.Logits.lean ====
/-
  The logits agree. The two kernels' host operations compute the normalized mean by the reference's own operations and hand each
  bias over as a row; the gating kernel's two products with a relu are then the reference's two dense layers.
-/
module

public import proofs.«01_k».proof.Proof.Gate
public import proofs.«01_k».proof.Proof.RefValue
public import Idealize.ShloMosaic.Lib.Pointwise.Reshape

@[expose] public section

set_option maxRecDepth 65536

noncomputable section

namespace Cert.ReferenceIdeal.Val

open Idealize.ShloMosaic hiding ix1 ix2 ix3
open Cert.ReferenceIdeal Cert.ReferenceIdeal.Gen Idealize.ShloMosaic.ValueIdx
open scoped BigOperators

/-- A dense layer of the gate at an index. -/
def denseV (v : FVec Ideal S128x2048 .f32) (w : FVec Ideal S2048x2048 .f32) (b : FVec Ideal S2048 .f32) (n : Fin 128) (o : Fin 2048) :
    EReal := (∑ k : Fin 2048, v (ix2 n k) * w (ix2 o k)) + b (ix1 o)

/-- A bias repeated on every row reads the bias at its column. -/
theorem rowsR_apply (b : FVec Ideal S2048 .f32) (n : Fin 128) (o : Fin 2048) : rowsR b (ix2 n o) = b (ix1 o) :=
  congrArg b (funext fun a => match a with | ⟨0, _⟩ => rfl)

/-- The reference's dense layer at an index. -/
theorem denseR_apply (v : FVec Ideal S128x2048 .f32) (w : FVec Ideal S2048x2048 .f32) (b : FVec Ideal S2048 .f32) (n : Fin 128)
    (o : Fin 2048) : denseR v w b (ix2 n o) = denseV v w b n o := by
  have ht : ∀ k : Fin 2048, transpose S2048x2048 [1, 0] w transposes_S2048x2048_S2048x2048_1_0 (ix2 k o) = w (ix2 o k) :=
    fun k => congrArg w (funext fun a => match a with | ⟨0, _⟩ => rfl | ⟨1, _⟩ => rfl)
  unfold denseV
  refine congrArg₂ (fun a b : EReal => a + b) ?_ (rowsR_apply b n o)
  refine (Ideal.matmul_plain_apply (M := 128) (K := 2048) (N := 2048) none v
    (transpose S2048x2048 [1, 0] w transposes_S2048x2048_S2048x2048_1_0) (fun _ => 0) n o).trans ?_
  rw [zero_add]
  exact Finset.sum_congr rfl fun k _ => by rw [ht]

end Cert.ReferenceIdeal.Val

namespace Cert.KernelIdeal.Val

open Idealize.ShloMosaic hiding ix1 ix2 ix3
open Idealize.ShloMosaic.TcCoe Idealize.SL.Sem Cert.KernelIdeal.Gen Idealize.ShloMosaic.ValueIdx
open Cert.ReferenceIdeal.Val
open scoped BigOperators

/-- A row vector kept as a matrix of one row, as the host hands it over. -/
def rowP (b : FVec Ideal S2048 .f32) : FVec Ideal S1x2048 .f32 := shapeCast S1x2048 b shapeCasts_S2048_S1x2048

/-- A bias kept as one row reads the bias at its column. -/
theorem rowP_apply (b : FVec Ideal S2048 .f32) (o : Fin 2048) : rowP b (ix2 0 o) = b (ix1 o) := by
  unfold rowP
  refine shapeCast_apply b _ (ix2 0 o) (ix1 o) ?_
  rw [rowMajor_val1, rowMajor_val2 _ 2048 rfl]
  show o.val = 0 * 2048 + o.val
  omega

/-- One dense layer of the gating kernel. -/
def denseP (v : FVec Ideal S128x2048 .f32) (w : FVec Ideal S2048x2048 .f32) (b : FVec Ideal S1x2048 .f32) : FVec Ideal S128x2048 .f32 :=
  addf (matmul dot_S128x2048_S2048x2048_S128x2048_1_1_0_0_n_n none v w (constant S128x2048 .f32 0x00000000#32))
    (broadcastTo S128x2048 b broadcasts_S1x2048_S128x2048)

/-- The kernel's dense layer at an index. -/
theorem denseP_apply (v : FVec Ideal S128x2048 .f32) (w : FVec Ideal S2048x2048 .f32) (b : FVec Ideal S2048 .f32) (n : Fin 128)
    (o : Fin 2048) : denseP v w (rowP b) (ix2 n o) = denseV v w b n o := by
  unfold denseV
  refine congrArg₂ (fun a b : EReal => a + b) ?_ ?_
  · refine (Ideal.matmul_transposedRhs_apply (M := 128) (K := 2048) (N := 2048) none v w _ n o).trans ?_
    show Ideal.ofBits .f32 0x00000000#32 + _ = _
    rw [Ideal.ofBits_zero_f32, zero_add]
  · exact (broadcastTo_1b_ab_apply (rowP b) broadcasts_S1x2048_S128x2048 n o).trans (rowP_apply b o)

/-- The kernel's dense layer is the reference's. -/
theorem dense_eq (v : FVec Ideal S128x2048 .f32) (w : FVec Ideal S2048x2048 .f32) (b : FVec Ideal S2048 .f32) :
    denseP v w (rowP b) = denseR v w b := by
  funext i
  obtain ⟨n, o, rfl⟩ : ∃ (n : Fin 128) (o : Fin 2048), i = ix2 n o :=
    ⟨i 0, i 1, funext fun a => match a with | ⟨0, _⟩ => rfl | ⟨1, _⟩ => rfl⟩
  rw [denseP_apply]
  exact (denseR_apply v w b n o).symm

/-- The gating kernel's logits are the reference's. -/
theorem logits_eq (xn : FVec Ideal S128x2048 .f32) (lw W1 : FVec Ideal S2048x2048 .f32) (lb b1 : FVec Ideal S2048 .f32) :
    logitsP xn lw (rowP lb) W1 (rowP b1) = logitsR xn lw lb W1 b1 := by
  have e : logitsP xn lw (rowP lb) W1 (rowP b1)
      = maximumf (denseP (denseP xn lw (rowP lb)) W1 (rowP b1)) (broadcast S128x2048 (Scalar.ofBits .f32 0x00000000#32)) := by
    unfold logitsP k0_pay2
    dsimp only
    rw [shapeCast_self, shapeCast_self, shapeCast_self]
    rfl
  rw [e, dense_eq, dense_eq]
  rfl

variable (m : (ℓ : Loc nD τ sig) → Buf (Elt Ideal) ℓ) (ρ : Dev nD → PrngReg) (c : Dev nD)

/-- What the host hands the gating kernel. -/
theorem host_xnorm : V1 m ρ c main_call0_v27 = xnormR (m ((c : Thread nD τ).loc main_arg0)) (m ((c : Thread nD τ).loc main_arg3))
    (m ((c : Thread nD τ).loc main_arg4)) := by
  unfold V1 W1
  rfl

/-- The layer bias reaches the kernels as one row. -/
theorem host_lb : V1 m ρ c main_call0_v28 = rowP (m ((c : Thread nD τ).loc main_arg2)) := by
  unfold V1 W1
  rfl

/-- The gate bias reaches the gating kernel as one row. -/
theorem host_b1 : V1 m ρ c main_call0_v29 = rowP (m ((c : Thread nD τ).loc main_arg6)) := by
  unfold V1 W1
  rfl

/-- The kernel's logits of a memory's arguments, by the reference's operations. -/
def kLogits : FVec Ideal S128x2048 .f32 :=
  logitsR (xnormR (m ((c : Thread nD τ).loc main_arg0)) (m ((c : Thread nD τ).loc main_arg3)) (m ((c : Thread nD τ).loc main_arg4)))
    (m ((c : Thread nD τ).loc main_arg1)) (m ((c : Thread nD τ).loc main_arg2)) (m ((c : Thread nD τ).loc main_arg5))
    (m ((c : Thread nD τ).loc main_arg6))

/-- The logits the gating kernel computes are the reference's operations of the arguments. -/
theorem gate_logits : gateLogits (V1 m ρ) c = kLogits m c := by
  unfold gateLogits kLogits
  rw [host_xnorm, host_lb, host_b1, show V1 m ρ c main_arg1 = _ from W1_args m ρ c main_arg1 (by decide),
    show V1 m ρ c main_arg5 = _ from W1_args m ρ c main_arg5 (by decide), logits_eq]

end Cert.KernelIdeal.Val

end
-- ==== Proof.Dense.lean ====
/-
  What the dense kernel leaves. Its grid has 4 points, point `t` computing the 512 output columns from 512·t: at (l, n, o) the
  result is the layer's value there times the mask at (n, o).
-/
module

public import proofs.«01_k».proof.Proof.Logits

@[expose] public section

set_option maxRecDepth 65536

noncomputable section

namespace Cert.KernelIdeal.Val

open Idealize.ShloMosaic hiding ix1 ix2 ix3
open Idealize.ShloMosaic.TcCoe Idealize.SL.Sem Cert.KernelIdeal.Gen Idealize.ShloMosaic.ValueIdx
open scoped BigOperators

/-- Three zero offsets, as a function. -/
theorem hz3 : (![0, 0, 0] : Fin 3 → Nat) = fun _ => 0 := funext fun a => by fin_cases a <;> rfl

/-- The flat row of (l, n). -/
def flat (l : Fin 8) (n : Fin 128) : Fin 1024 := ⟨l.val * 128 + n.val, by have := l.isLt; have := n.isLt; omega⟩

/-- Flattening the first two axes: row `flat l n` holds row (l, n). -/
theorem flatten_apply (x : FVec Ideal S8x128x2048 .f32) (l : Fin 8) (n : Fin 128) (k : Fin 2048) :
    shapeCast S1024x2048 x shapeCasts_S8x128x2048_S1024x2048 (ix2 (flat l n) k) = x (ix3 l n k) := by
  refine shapeCast_apply x _ (ix2 (flat l n) k) (ix3 l n k) ?_
  rw [rowMajor_val3 _ 262144 2048 rfl rfl, rowMajor_val2 _ 2048 rfl]
  show l.val * 262144 + n.val * 2048 + k.val = (l.val * 128 + n.val) * 2048 + k.val
  omega

/-- Splitting the flat row axis again: (l, n) holds row `flat l n`. -/
theorem unflatten_apply (x : FVec Ideal S1024x512 .f32) (l : Fin 8) (n : Fin 128) (q : Fin 512) :
    shapeCast S8x128x512 x shapeCasts_S1024x512_S8x128x512 (ix3 l n q) = x (ix2 (flat l n) q) := by
  refine shapeCast_apply x _ (ix3 l n q) (ix2 (flat l n) q) ?_
  rw [rowMajor_val3 _ 65536 512 rfl rfl, rowMajor_val2 _ 512 rfl]
  show (l.val * 128 + n.val) * 512 + q.val = l.val * 65536 + n.val * 512 + q.val
  omega

/-- A matrix given a leading axis of one reads as the matrix. -/
theorem lead_apply (x : FVec Ideal S128x512 .f32) (n : Fin 128) (q : Fin 512) :
    shapeCast S1x128x512 x shapeCasts_S128x512_S1x128x512 (ix3 0 n q) = x (ix2 n q) := by
  refine shapeCast_apply x _ (ix3 0 n q) (ix2 n q) ?_
  rw [rowMajor_val3 _ 65536 512 rfl rfl, rowMajor_val2 _ 512 rfl]
  show n.val * 512 + q.val = 0 * 65536 + n.val * 512 + q.val
  omega

/-- The mask tile repeated over the first axis reads the same at every `l`. -/
theorem spread_apply (x : FVec Ideal S1x128x512 .f32) (l : Fin 8) (n : Fin 128) (q : Fin 512) :
    broadcastTo S8x128x512 x broadcasts_S1x128x512_S8x128x512 (ix3 l n q) = x (ix3 0 n q) := by
  refine broadcastTo_apply x _ (ix3 l n q) (ix3 0 n q) fun a => ?_
  match a with
  | ⟨0, _⟩ => rfl
  | ⟨1, _⟩ => rfl
  | ⟨2, _⟩ => rfl

/-- One tile of the kernel's result at an index. -/
theorem tile_apply (x0 : Vec Ideal S8x128x2048 .f32) (x1 : Vec Ideal S512x2048 .f32) (x2 : Vec Ideal S1x512 .f32)
    (x3 : Vec Ideal S128x512 .f32) (l : Fin 8) (n : Fin 128) (q : Fin 512) :
    out1_4 x0 x1 x2 x3 (ix3 l n q)
      = ((∑ k : Fin 2048, (x0 (ix3 l n k) : EReal) * x1 (ix2 q k)) + x2 (ix2 0 q)) * x3 (ix2 n q) := by
  unfold out1_4
  rw [View.canon_unit_zero (S := S8x128x512) hz3, View.ld_unit_zero (S := S8x128x2048) hz3, View.ld_unit_zero (S := S512x2048) hz,
    View.ld_unit_zero (S := S1x512) hz, View.ld_unit_zero (S := S128x512) hz]
  unfold k1_pay1
  rw [shapeCast_self, shapeCast_self]
  refine congrArg₂ (fun a b : EReal => a * b) ?_ ((spread_apply _ l n q).trans (lead_apply x3 n q))
  rw [unflatten_apply]
  refine congrArg₂ (fun a b : EReal => a + b) ?_ (broadcastTo_1b_ab_apply x2 broadcasts_S1x512_S1024x512 (flat l n) q)
  refine (Ideal.matmul_transposedRhs_apply (M := 1024) (K := 2048) (N := 512) none _ x1 _ (flat l n) q).trans ?_
  show Ideal.ofBits .f32 0x00000000#32 + _ = _
  rw [Ideal.ofBits_zero_f32, zero_add]
  exact Finset.sum_congr rfl fun k _ => by rw [flatten_apply]

/-- The masked layer at (l, n, o). -/
def maskedV (x : FVec Ideal S8x128x2048 .f32) (w : FVec Ideal S2048x2048 .f32) (b : FVec Ideal S1x2048 .f32) (g : FVec Ideal S128x2048 .f32)
    (l : Fin 8) (n : Fin 128) (o : Fin 2048) : EReal :=
  ((∑ k : Fin 2048, x (ix3 l n k) * w (ix2 o k)) + b (ix2 0 o)) * g (ix2 n o)

/-- The masked layer as an array. -/
def masked (x : FVec Ideal S8x128x2048 .f32) (w : FVec Ideal S2048x2048 .f32) (b : FVec Ideal S1x2048 .f32) (g : FVec Ideal S128x2048 .f32) :
    FVec Ideal S8x128x2048 .f32 := fun i => maskedV x w b g (i 0) (i 1) (i 2)

variable (V : (c : Dev nD) → (b : Ref sig .tc) → Buf (Elt Ideal) ((c : Thread nD τ).loc b)) (d : Dev nD)

/-- The column a tile's column stands at. -/
def col (t : Fin cfg1.N) (q : Fin 512) : Fin 2048 :=
  ⟨t.val * 512 + q.val, by have h : t.val < 4 := lt_of_lt_of_eq t.isLt N_1; have := q.isLt; omega⟩

/-- At every grid point the whole input is read. -/
theorem ix0 : ∀ t : Fin cfg1.N, win1_0.index t = ![0, 0, 0] := (by decide +kernel : ∀ t : Fin grid1.N, _)
/-- Point `t` reads the weight's row block `t`. -/
theorem ix1' : ∀ t : Fin cfg1.N, win1_1.index t = ![t.val, 0] := (by decide +kernel : ∀ t : Fin grid1.N, _)
/-- Point `t` reads the bias's column block `t`. -/
theorem ix2' : ∀ t : Fin cfg1.N, win1_2.index t = ![0, t.val] := (by decide +kernel : ∀ t : Fin grid1.N, _)
/-- Point `t` reads the mask's column block `t`. -/
theorem ix3' : ∀ t : Fin cfg1.N, win1_3.index t = ![0, t.val] := (by decide +kernel : ∀ t : Fin grid1.N, _)
/-- Point `t` writes the result's column block `t`. -/
theorem ix4' : ∀ t : Fin cfg1.N, win1_4.index t = ![0, 0, t.val] := (by decide +kernel : ∀ t : Fin grid1.N, _)

/-- The input block at point `t` is the input. -/
theorem tile0 (t : Fin cfg1.N) (l : Fin 8) (n : Fin 128) (k : Fin 2048) :
    (iblk1 V d 0 t : Vec Ideal S8x128x2048 .f32) (ix3 l n k) = V d main_arg0 (ix3 l n k) := by
  unfold iblk1
  rw [View.read_apply]
  refine congrArg (V d main_arg0) (funext fun a => Fin.ext ?_)
  match a with
  | ⟨0, _⟩ => show win1_0.index t 0 * 8 + 1 * l.val = l.val; rw [ix0]; show 0 * 8 + 1 * l.val = _; omega
  | ⟨1, _⟩ => show win1_0.index t 1 * 128 + 1 * n.val = n.val; rw [ix0]; show 0 * 128 + 1 * n.val = _; omega
  | ⟨2, _⟩ => show win1_0.index t 2 * 2048 + 1 * k.val = k.val; rw [ix0]; show 0 * 2048 + 1 * k.val = _; omega

/-- The weight block at point `t`, at the weight's own rows. -/
theorem tile1 (t : Fin cfg1.N) (q : Fin 512) (k : Fin 2048) :
    (iblk1 V d 1 t : Vec Ideal S512x2048 .f32) (ix2 q k) = V d main_arg1 (ix2 (col t q) k) := by
  unfold iblk1
  rw [View.read_apply]
  refine congrArg (V d main_arg1) (funext fun a => Fin.ext ?_)
  match a with
  | ⟨0, _⟩ => show win1_1.index t 0 * 512 + 1 * q.val = t.val * 512 + q.val; rw [ix1']; show t.val * 512 + 1 * q.val = _; omega
  | ⟨1, _⟩ => show win1_1.index t 1 * 2048 + 1 * k.val = k.val; rw [ix1']; show 0 * 2048 + 1 * k.val = _; omega

/-- The bias block at point `t`, at the bias's own columns. -/
theorem tile2 (t : Fin cfg1.N) (q : Fin 512) :
    (iblk1 V d 2 t : Vec Ideal S1x512 .f32) (ix2 0 q) = V d main_call0_v28 (ix2 0 (col t q)) := by
  unfold iblk1
  rw [View.read_apply]
  refine congrArg (V d main_call0_v28) (funext fun a => Fin.ext ?_)
  match a with
  | ⟨0, _⟩ => show win1_2.index t 0 * 1 + 1 * 0 = 0; rw [ix2']; rfl
  | ⟨1, _⟩ => show win1_2.index t 1 * 512 + 1 * q.val = t.val * 512 + q.val; rw [ix2']; show t.val * 512 + 1 * q.val = _; omega

/-- The mask block at point `t`, at the mask's own columns. -/
theorem tile3 (t : Fin cfg1.N) (n : Fin 128) (q : Fin 512) :
    (iblk1 V d 3 t : Vec Ideal S128x512 .f32) (ix2 n q) = V d main_call0_v30_1 (ix2 n (col t q)) := by
  unfold iblk1
  rw [View.read_apply]
  refine congrArg (V d main_call0_v30_1) (funext fun a => Fin.ext ?_)
  match a with
  | ⟨0, _⟩ => show win1_3.index t 0 * 128 + 1 * n.val = n.val; rw [ix3']; show 0 * 128 + 1 * n.val = _; omega
  | ⟨1, _⟩ => show win1_3.index t 1 * 512 + 1 * q.val = t.val * 512 + q.val; rw [ix3']; show t.val * 512 + 1 * q.val = _; omega

/-- Where an index of point `t`'s tile stands in the result array. -/
theorem emb4 (t : Fin cfg1.N) (l : Fin 8) (n : Fin 128) (q : Fin 512) :
    ((win1_4.blk t).view.emb (ix3 l n q) : S8x128x2048.Idx) = ix3 l n (col t q) := by
  funext a
  apply Fin.ext
  match a with
  | ⟨0, _⟩ => show win1_4.index t 0 * 8 + 1 * l.val = l.val; rw [ix4']; show 0 * 8 + 1 * l.val = _; omega
  | ⟨1, _⟩ => show win1_4.index t 1 * 128 + 1 * n.val = n.val; rw [ix4']; show 0 * 128 + 1 * n.val = _; omega
  | ⟨2, _⟩ => show win1_4.index t 2 * 512 + 1 * q.val = t.val * 512 + q.val; rw [ix4']; show t.val * 512 + 1 * q.val = _; omega

/-- What point `t` leaves in its tile, at the array's coordinates. -/
theorem tile4 (t : Fin cfg1.N) (l : Fin 8) (n : Fin 128) (q : Fin 512) :
    out1_4 (iblk1 V d 0 t) (iblk1 V d 1 t) (iblk1 V d 2 t) (iblk1 V d 3 t) (ix3 l n q)
      = maskedV (V d main_arg0) (V d main_arg1) (V d main_call0_v28) (V d main_call0_v30_1) l n (col t q) := by
  refine (tile_apply _ _ _ _ l n q).trans ?_
  unfold maskedV
  rw [tile2, tile3]
  refine congrArg (fun s : EReal => (s + _) * _) (Finset.sum_congr rfl fun k _ => ?_)
  rw [tile0, tile1]

/-- The same, at any index of the tile. -/
theorem tile5 (t : Fin cfg1.N) (y : S8x128x512.Idx) :
    out1_4 (iblk1 V d 0 t) (iblk1 V d 1 t) (iblk1 V d 2 t) (iblk1 V d 3 t) y
      = masked (V d main_arg0) (V d main_arg1) (V d main_call0_v28) (V d main_call0_v30_1) ((win1_4.blk t).view.emb y) := by
  obtain ⟨l, n, q, rfl⟩ : ∃ (l : Fin 8) (n : Fin 128) (q : Fin 512), y = ix3 l n q :=
    ⟨y 0, y 1, y 2, funext fun a => match a with | ⟨0, _⟩ => rfl | ⟨1, _⟩ => rfl | ⟨2, _⟩ => rfl⟩
  rw [emb4, tile4]
  rfl

/-- The result array after the kernel. -/
theorem final_out : (dat1 V d).arrAt 4 cfg1.N
    = masked (V d main_arg0) (V d main_arg1) (V d main_call0_v28) (V d main_call0_v30_1) := by
  refine (dat1 V d).arrAt_eq_of_covers 4 _ (by decide +kernel) fun t hf y => ?_
  rw [after1_4]
  blk_simp
  exact tile5 V d t y

end Cert.KernelIdeal.Val

end
-- ==== Proof.Sorting.lean ====
/-
  A row of keys sorted two ways. `ent v k` is the pair (key, position), ordered so that the greater pair is the greater key, or an
  equal key at an earlier position. The bitonic network applied to the pairs of a row, and the host's stable sort of the row by
  "greater key first", put the same position at every rank (`net_eq`); and a pair is among the first `m + 1` exactly when it is
  not below the pair at rank `m` (`ge_rank_iff`).
-/
module

public import Mathlib.Data.Prod.Lex
public import Mathlib.Data.Finset.Card
public import Idealize.ShloMosaic.Lib.SortNet.Sorts
public import Idealize.ShloMosaic.Lib.SortNet.Positions
public import Idealize.ShloMosaic.Lib.PlanTiles.StableSort

@[expose] public section

noncomputable section

namespace Cert.KernelIdeal.Val

open Idealize.ShloMosaic Idealize.ShloMosaic.SortNet

variable {β : Type} [LinearOrder β] {n : Nat}

/-- A key with its position: greater key first, then the earlier position. -/
abbrev Pair (β : Type) (n : Nat) : Type := β ×ₗ (Fin n)ᵒᵈ

/-- The pair at position `k` of a row of keys. -/
def ent (v : Fin n → β) (k : Fin n) : Pair β n := toLex (v k, OrderDual.toDual k)

/-- A pair's key. -/
def keyP (e : Pair β n) : β := (ofLex e).1

/-- A pair's position. -/
def posP (e : Pair β n) : Fin n := OrderDual.ofDual (ofLex e).2

@[simp] theorem keyP_ent (v : Fin n → β) (k : Fin n) : keyP (ent v k) = v k := rfl
@[simp] theorem posP_ent (v : Fin n → β) (k : Fin n) : posP (ent v k) = k := rfl

/-- One pair is below another: the key is smaller, or equal with the later position. -/
theorem pair_lt_iff (e e' : Pair β n) : e' < e ↔ keyP e' < keyP e ∨ (keyP e = keyP e' ∧ posP e < posP e') := by
  rw [Prod.Lex.lt_iff]
  constructor
  · rintro (h | ⟨h, h'⟩)
    · exact Or.inl h
    · exact Or.inr ⟨h.symm, h'⟩
  · rintro (h | ⟨h, h'⟩)
    · exact Or.inl h
    · exact Or.inr ⟨h.symm, h'⟩

/-- Entries at different positions differ. -/
theorem ent_injective (v : Fin n → β) : Function.Injective (ent v) := fun a b h => by
  have := congrArg posP h
  simpa using this

/-- How many keys lie below the key at a position: it orders the positions as their keys do. -/
def below (v : Fin n → β) (k : Fin n) : Nat := (Finset.univ.filter fun c => v c < v k).card

/-- Fewer entries lie below a value exactly when the value is smaller. -/
theorem below_lt_iff (v : Fin n → β) (k k' : Fin n) : below v k' < below v k ↔ v k' < v k := by
  constructor
  · intro h
    by_contra hn
    have hle : v k ≤ v k' := not_lt.mp hn
    refine absurd h (not_lt.mpr (Finset.card_le_card ?_))
    intro c hc
    simp only [Finset.mem_filter, Finset.mem_univ, true_and] at hc ⊢
    exact lt_of_lt_of_le hc hle
  · intro h
    refine Finset.card_lt_card ⟨?_, ?_⟩
    · intro c hc
      simp only [Finset.mem_filter, Finset.mem_univ, true_and] at hc ⊢
      exact lt_trans hc h
    · intro hs
      have := hs (show k' ∈ Finset.univ.filter (fun c => v c < v k) by simpa using h)
      simp at this

/-- The rank order of a row: the position that a stable sort by "greater key first" leaves at each rank. -/
def rank (v : Fin n → β) : Fin n → Fin n := sortedFrom fun k k' => decide (v k' < v k)

/-- The stable sort by the key alone orders the pairs. -/
theorem rank_eq_greaterFirst (v : Fin n → β) : rank v = sortedFrom (greaterFirst (ent v)) := by
  have hB := strictTotalBefore_greaterFirst (ent v) (ent_injective v)
  have hkey : (fun k k' : Fin n => decide (v k' < v k)) = fun k k' => decide (below v k' < below v k) := by
    funext k k'; rw [decide_eq_decide, below_lt_iff]
  have hs := PlanTiles.pairwise_stableSort_lex (below v) (· < ·) (List.finRange n) (List.pairwise_lt_finRange n)
  have hl : sortPositions n (fun k k' => decide (v k' < v k)) = sortPositions n (greaterFirst (ent v)) := by
    rw [hkey]
    refine hB.eq_stableSort_of_sorted (perm_stableSort _ _) (hs.imp ?_)
    rintro a b (h | ⟨h, h'⟩)
    · rw [below_lt_iff] at h
      simp only [greaterFirst, decide_eq_false_iff_not, not_lt]
      exact le_of_lt ((pair_lt_iff _ _).mpr (Or.inl h))
    · have he : v a = v b := by
        refine le_antisymm (not_lt.mp fun hc => ?_) (not_lt.mp fun hc => ?_)
        · have := (below_lt_iff v _ _).mpr hc; omega
        · have := (below_lt_iff v _ _).mpr hc; omega
      simp only [greaterFirst, decide_eq_false_iff_not, not_lt]
      exact le_of_lt ((pair_lt_iff _ _).mpr (Or.inr ⟨he, h'⟩))
  unfold rank sortedFrom
  funext k
  simp only [List.get_eq_getElem, Fin.val_cast, hl]

/-- No position has two ranks. -/
theorem rank_injective (v : Fin n → β) : Function.Injective (rank v) := sortedFrom_injective _

/-- Every position has a rank. -/
theorem rank_surjective (v : Fin n → β) : Function.Surjective (rank v) := sortedFrom_surjective _

/-- Any arrangement of a row's pairs that descends is the arrangement by rank. -/
theorem arranged_eq (v : Fin n → β) (σ : Equiv.Perm (Fin n)) (hσ : Antitone (ent v ∘ σ)) (r : Fin n) : rank v r = σ r := by
  rw [rank_eq_greaterFirst]
  have hB := strictTotalBefore_greaterFirst (ent v) (ent_injective v)
  refine hB.sortedFrom_eq_of_prefix (le_refl n) σ σ.injective (fun i j hij => ?_) (fun i p hp => ?_) r
  · simp only [greaterFirst, decide_eq_false_iff_not, not_lt]
    exact hσ (le_of_lt hij)
  · exact absurd (σ.apply_symm_apply p) (hp _)

/-- The bitonic network leaves, at rank `r`, the pair of the position that the stable sort leaves there. -/
theorem net_eq (p : Nat) (v : Fin (2 ^ p) → β) (r : Fin (2 ^ p)) :
    Network.apply (sortNet p true) (ent v) r = ent v (rank v r) := by
  obtain ⟨σ, hσ⟩ := Network.exists_perm (sortNet p true) (ent v)
  have ha := sortNet_apply_antitone p (ent v)
  rw [hσ] at ha ⊢
  rw [arranged_eq v σ ha r]
  rfl

/-- The pairs by rank descend strictly. -/
theorem rank_strictAnti (p : Nat) (v : Fin (2 ^ p) → β) : StrictAnti fun r => ent v (rank v r) := by
  have ha : Antitone fun r => ent v (rank v r) := by
    have h := sortNet_apply_antitone p (ent v)
    intro r r' hr
    have := h hr
    rwa [net_eq, net_eq] at this
  exact ha.strictAnti_of_injective fun a b h => rank_injective v (ent_injective v h)

/-- A position is among the first `m + 1` ranks exactly when its pair is not below the pair at rank `m`: its key is greater,
    or equal at no later a position. -/
theorem ge_rank_iff (p : Nat) (v : Fin (2 ^ p) → β) (m k : Fin (2 ^ p)) :
    (v (rank v m) < v k ∨ (v k = v (rank v m) ∧ k ≤ rank v m)) ↔ ∃ r, r ≤ m ∧ rank v r = k := by
  obtain ⟨r, rfl⟩ := rank_surjective v k
  have hsa := rank_strictAnti p v
  have h1 : (v (rank v m) < v (rank v r) ∨ (v (rank v r) = v (rank v m) ∧ rank v r ≤ rank v m))
      ↔ ent v (rank v m) ≤ ent v (rank v r) := by
    rw [le_iff_lt_or_eq (a := ent v (rank v m)), pair_lt_iff]
    simp only [keyP_ent, posP_ent]
    constructor
    · rintro (h | ⟨h, h'⟩)
      · exact Or.inl (Or.inl h)
      · rcases lt_or_eq_of_le h' with h2 | h2
        · exact Or.inl (Or.inr ⟨h, h2⟩)
        · exact Or.inr (by rw [h2])
    · rintro ((h | ⟨h, h'⟩) | h)
      · exact Or.inl h
      · exact Or.inr ⟨h, le_of_lt h'⟩
      · have := ent_injective v h
        exact Or.inr ⟨by rw [this], le_of_eq this.symm⟩
  rw [h1, hsa.le_iff_ge]
  constructor
  · exact fun h => ⟨r, h, rfl⟩
  · rintro ⟨r', h, hr⟩
    rwa [rank_injective v hr] at h

end Cert.KernelIdeal.Val

end
-- ==== Proof.Rows.lean ====
/-
  The printed sort, row by row. `rowCol n` names the 2048 elements of row `n`. Holding pairs is `Holds`: the value vector has the
  pair's key and the position vector has the pair's position as a word. One printed stage takes held pairs to the bitonic stage's
  pairs (`stageP_holds`), so the whole printed network sorts each row (`netP_val`, `netP_pos`); and the index block is the host's
  top-k of the logits (`idxP_eq_topK`), the mask 1 exactly on the chosen positions (`maskP_apply`).
-/
module

public import proofs.«01_k».proof.Proof.Stage
public import proofs.«01_k».proof.Proof.Sorting
public import Idealize.ShloMosaic.Lib.SortNet.Printed
public import Idealize.ShloMosaic.Lib.WordCmp
public import Idealize.ShloMosaic.Lib.ValueIdx

@[expose] public section

set_option maxRecDepth 16384

noncomputable section

namespace Cert.KernelIdeal.Val

open Idealize.ShloMosaic hiding ix1 ix2 ix3
open Idealize.ShloMosaic.SortNet Idealize.ShloMosaic.ValueIdx Cert.KernelIdeal.Gen

/-- Row `n` as a column of 2048 positions along axis 1. -/
def rowCol (n : Fin 128) : Column S128x2048 1 11 where
  col i := ix2 n i
  size_eq := rfl
  coord _ := rfl
  other i i' b hb := by
    match b, hb with
    | ⟨0, _⟩, _ => rfl
    | ⟨1, _⟩, hb => exact absurd rfl hb

/-- Row `n` of the two vectors holds the pairs `E`. -/
def Holds (n : Fin 128) (v : FVec Ideal S128x2048 .f32) (i : IVec S128x2048 32) (E : Fin (2 ^ 11) → Pair EReal (2 ^ 11)) : Prop :=
  ∀ k, v ((rowCol n).col k) = keyP (E k) ∧ i ((rowCol n).col k) = BitVec.ofNat 32 (posP (E k)).val

/-- Position `k` of a row carries the word `k`. -/
theorem lane_apply (n : Fin 128) (k : Fin (2 ^ 11)) : lane ((rowCol n).col k) = BitVec.ofNat 32 k.val :=
  (rowCol n).iota_apply _ _ k

/-- The lower-position mask at distance 2^s is bit `s` of the position being clear. -/
theorem lowP_apply (n : Fin 128) (s : Nat) (j : BitVec 32) (hj : j.toNat = 2 ^ s) (k : Fin (2 ^ 11)) :
    lowP j ((rowCol n).col k) = BitVec.ofBool (decide (k.val &&& 2 ^ s = 0)) := by
  show BitVec.ofBool (IntOp.andi (lane ((rowCol n).col k)) j == 0#32) = _
  rw [lane_apply]
  have hk : k.val < 2 ^ 32 := lt_of_lt_of_le k.isLt (by decide)
  congr 1
  rw [Bool.eq_iff_iff, beq_iff_eq, decide_eq_true_eq, and_distance_eq_zero_iff hk j hj]

/-- The direction mask of a block of length 2^s is bit `s` of the position being set. -/
theorem ascP_apply (n : Fin 128) (s : Nat) (j : BitVec 32) (hj : j.toNat = 2 ^ s) (k : Fin (2 ^ 11)) :
    ascP j ((rowCol n).col k) = BitVec.ofBool (decide (k.val &&& 2 ^ s ≠ 0)) :=
  upper_apply (rowCol n) (by decide) lane (lane_apply n) j hj k

/-- The printed partner is the element at the partner position. -/
theorem partP_apply {α : Type} (n : Fin 128) (s : Nat) (hs : s < 11) (j : BitVec 32) (hj : j.toNat = 2 ^ s)
    (v : S128x2048.Idx → α) (k : Fin (2 ^ 11)) : partP j v ((rowCol n).col k) = v ((rowCol n).col (partner 11 s k)) := by
  show Scalar.select (lowP j ((rowCol n).col k)) _ _ = _
  rw [lowP_apply n s j hj, select_ofBool]
  have h2 : 2 ^ s < 2 ^ 11 := Nat.pow_lt_pow_right (by decide) hs
  by_cases hb : k.val &&& 2 ^ s = 0
  · rw [decide_eq_true hb, if_pos rfl]
    refine (rowCol n).rotate_of_clear hs _ ?_ v _ k hb
    rw [BitVec.toNat_sub, hj]
    show (2 ^ 32 - 2 ^ s + 2048) % 2 ^ 32 = 2048 - 2 ^ s
    omega
  · rw [decide_eq_false hb, if_neg Bool.false_ne_true]
    exact (rowCol n).rotate_of_set hs _ hj v _ k hb

/-- The direction of a stage in the sort: the greater pair goes first in the even blocks. -/
def dirP (l : Nat) (k : Fin (2 ^ 11)) : Bool := decide (k.val &&& 2 ^ (l + 1) = 0) == true

/-- "This pair goes before its partner", printed, is the order of the pairs. -/
theorem win_apply (x y : EReal) (a b : Fin (2 ^ 11)) (e e' : Pair EReal (2 ^ 11)) (hx : x = keyP e) (hy : y = keyP e')
    (ha : a = posP e) (hb : b = posP e') :
    IntOp.ori (Ideal.cmp .ogt x y) (IntOp.andi (Ideal.cmp .oeq x y) (IntOp.cmpi .slt (BitVec.ofNat 32 a.val) (BitVec.ofNat 32 b.val)))
      = BitVec.ofBool (decide (e' < e)) := by
  have h1 := a.isLt
  have h2 := b.isLt
  rw [WordCmp.cmpi_slt_ofNat (lt_of_lt_of_le h1 (by decide)) (lt_of_lt_of_le h2 (by decide))]
  subst hx hy ha hb
  have hor : ∀ p q r : Bool, IntOp.ori (BitVec.ofBool p) (IntOp.andi (BitVec.ofBool q) (BitVec.ofBool r)) = BitVec.ofBool (p || (q && r)) := by
    decide
  show IntOp.ori (BitVec.ofBool (decide (keyP e' < keyP e))) (IntOp.andi (BitVec.ofBool (decide (keyP e = keyP e'))) (BitVec.ofBool _)) = _
  rw [hor]
  congr 1
  rw [Bool.eq_iff_iff]
  simp only [Bool.or_eq_true, Bool.and_eq_true, decide_eq_true_eq, pair_lt_iff, Fin.lt_def]

/-- One printed stage is the bitonic stage on the pairs a row holds. -/
theorem stageP_holds (n : Fin 128) (l s : Nat) (hs : s < 11) (hsl : s ≤ l) (k j : BitVec 32) (hk : k.toNat = 2 ^ (l + 1))
    (hj : j.toNat = 2 ^ s) (st : FVec Ideal S128x2048 .f32 × IVec S128x2048 32) (E : Fin (2 ^ 11) → Pair EReal (2 ^ 11))
    (hE : Holds n st.1 st.2 E) :
    Holds n (stageP st (k, j)).1 (stageP st (k, j)).2 (Network.apply (stage 11 s (dirP l)) E) := by
  intro i
  have hpv := partP_apply n s hs j hj st.1 i
  have hpi := partP_apply n s hs j hj st.2 i
  obtain ⟨hv, hi⟩ := hE i
  obtain ⟨hv', hi'⟩ := hE (partner 11 s i)
  have htake : takeP k j st.1 st.2 ((rowCol n).col i)
      = BitVec.ofBool (decide (decide (E (partner 11 s i) < E i) = upperXor s (dirP l) i)) := by
    show IntOp.xori (IntOp.xori (IntOp.ori (Ideal.cmp .ogt (st.1 ((rowCol n).col i)) (partP j st.1 ((rowCol n).col i)))
        (IntOp.andi (Ideal.cmp .oeq (st.1 ((rowCol n).col i)) (partP j st.1 ((rowCol n).col i)))
          (IntOp.cmpi .slt (st.2 ((rowCol n).col i)) (partP j st.2 ((rowCol n).col i)))))
        (IntOp.xori (lowP j ((rowCol n).col i)) 1#1)) (ascP k ((rowCol n).col i)) = _
    rw [hpv, hpi, hi, hi', win_apply _ _ _ _ (E i) (E (partner 11 s i)) hv hv' rfl rfl, lowP_apply n s j hj,
      ascP_apply n (l + 1) k hk]
    have key : ∀ (w : Bool) (p q : Prop) [Decidable p] [Decidable q],
        IntOp.xori (IntOp.xori (BitVec.ofBool w) (IntOp.xori (BitVec.ofBool (decide p)) 1#1)) (BitVec.ofBool (decide (¬ q)))
          = BitVec.ofBool (decide (w = (decide (¬ p) ^^ (decide q == true)))) := by
      intro w p q _ _
      by_cases hp : p <;> by_cases hq : q <;> cases w <;> simp [hp, hq] <;> rfl
    exact key _ _ _
  have hsrc := apply_stage_src hs (upperXor s (dirP l))
    (fun m => upperXor_partner hs (dirP l) m (sizeClear_partner hs hsl true m)) E i
  rw [stage_upperXor] at hsrc
  rw [hsrc]
  show Scalar.select (takeP k j st.1 st.2 ((rowCol n).col i)) (st.1 ((rowCol n).col i)) (partP j st.1 ((rowCol n).col i)) = _ ∧
    Scalar.select (takeP k j st.1 st.2 ((rowCol n).col i)) (st.2 ((rowCol n).col i)) (partP j st.2 ((rowCol n).col i)) = _
  rw [htake, select_ofBool, select_ofBool, hpv, hpi]
  unfold stageSrc
  by_cases hc : decide (E (partner 11 s i) < E i) = upperXor s (dirP l) i
  · rw [decide_eq_true hc, if_pos rfl, if_pos rfl, if_pos hc]
    exact ⟨hv, hi⟩
  · rw [decide_eq_false hc, if_neg Bool.false_ne_true, if_neg Bool.false_ne_true, if_neg hc]
    exact ⟨hv', hi'⟩

/-- The stages as levels: level `l` has the distances `2 ^ l, …, 1`. -/
def stagesN : List (Nat × Nat) := (List.range 11).flatMap fun l => (List.range (l + 1)).reverse.map fun s => (l, s)

/-- The printed stage distances are the powers of two of the stage numbers. -/
theorem stagesP_eq : stagesP = stagesN.map fun ls => (BitVec.ofNat 32 (2 ^ (ls.1 + 1)), BitVec.ofNat 32 (2 ^ ls.2)) := by
  decide +kernel

/-- Every stage number is in range for rows of 2^11. -/
theorem stagesN_bound : ∀ ls ∈ stagesN, ls.2 ≤ ls.1 ∧ ls.1 < 11 := by decide +kernel

/-- A list of printed stages is the list of bitonic stages. -/
theorem fold_holds (n : Fin 128) (L : List (Nat × Nat)) (hL : ∀ ls ∈ L, ls.2 ≤ ls.1 ∧ ls.1 < 11) :
    ∀ (st : FVec Ideal S128x2048 .f32 × IVec S128x2048 32) (E : Fin (2 ^ 11) → Pair EReal (2 ^ 11)), Holds n st.1 st.2 E →
      Holds n ((L.map fun ls => (BitVec.ofNat 32 (2 ^ (ls.1 + 1)), BitVec.ofNat 32 (2 ^ ls.2))).foldl stageP st).1
        ((L.map fun ls => (BitVec.ofNat 32 (2 ^ (ls.1 + 1)), BitVec.ofNat 32 (2 ^ ls.2))).foldl stageP st).2
        (Network.apply (L.flatMap fun ls => stage 11 ls.2 (dirP ls.1)) E) := by
  induction L with
  | nil => intro st E h; exact h
  | cons a L ih =>
    intro st E h
    obtain ⟨ha, ha'⟩ := hL a (List.mem_cons_self ..)
    rw [List.flatMap_cons, Network.apply_append]
    have hp : ∀ t, t ≤ 11 → (BitVec.ofNat 32 (2 ^ t)).toNat = 2 ^ t := fun t ht => by
      have : 2 ^ t ≤ 2 ^ 11 := Nat.pow_le_pow_right (by decide) ht
      rw [BitVec.toNat_ofNat]
      exact Nat.mod_eq_of_lt (lt_of_le_of_lt this (by decide))
    exact ih (fun ls hls => hL ls (List.mem_cons_of_mem _ hls)) _ _
      (stageP_holds n a.1 a.2 (by omega) ha _ _ (hp _ (by omega)) (hp _ (by omega)) st E h)

/-- The keys of row `n`. -/
def rowOf (v : FVec Ideal S128x2048 .f32) (n : Fin 128) (k : Fin (2 ^ 11)) : EReal := v ((rowCol n).col k)

/-- After the whole printed network each row holds its pairs by rank. -/
theorem netP_holds (v : FVec Ideal S128x2048 .f32) (n : Fin 128) :
    Holds n (netP v).1 (netP v).2 fun r => ent (rowOf v n) (rank (rowOf v n) r) := by
  have h := fold_holds n stagesN stagesN_bound (v, lane) (ent (rowOf v n)) (fun k => ⟨rfl, lane_apply n k⟩)
  rw [← stagesP_eq] at h
  have hnet : (stagesN.flatMap fun ls => stage 11 ls.2 (dirP ls.1)) = sortNet 11 true := by
    unfold stagesN sortNet
    rw [List.flatMap_assoc]
    congr 1
    funext l
    rw [List.flatMap_map]
    rfl
  rw [hnet] at h
  have hE : Network.apply (sortNet 11 true) (ent (rowOf v n)) = fun r => ent (rowOf v n) (rank (rowOf v n) r) :=
    funext fun r => net_eq 11 (rowOf v n) r
  rw [hE] at h
  exact h

attribute [local irreducible] netP sortedFrom

/-- The sorted value at rank `r` is the value at the position of that rank. -/
theorem netP_val (v : FVec Ideal S128x2048 .f32) (n : Fin 128) (r : Fin 2048) :
    (netP v).1 (ix2 n r) = v (ix2 n (rank (rowOf v n) r)) := (netP_holds v n r).1

/-- The sorted position at rank `r` is the position of that rank. -/
theorem netP_pos (v : FVec Ideal S128x2048 .f32) (n : Fin 128) (r : Fin 2048) :
    (netP v).2 (ix2 n r) = BitVec.ofNat 32 (rank (rowOf v n) r).val := by
  have h := (netP_holds v n r).2
  simp only [posP_ent] at h
  exact h

/-- The index block at row `n`, rank `r` is the position of that rank. -/
theorem idxP_apply (v : FVec Ideal S128x2048 .f32) (n : Fin 128) (r : Fin 1024) :
    idxP (netP v) (ix2 n r) = BitVec.ofNat 32 (rank (rowOf v n) (r.castLE (by decide))).val := by
  refine Eq.trans (congrArg (netP v).2 (funext fun a => ?_)) (netP_pos v n (r.castLE (by decide)))
  match a with
  | ⟨0, _⟩ => exact Fin.ext (Nat.zero_add _)
  | ⟨1, _⟩ => exact Fin.ext (Nat.zero_add _)

/-- The mask at row `n`, position `o`: 1 if the position's rank is among the first 1024, else 0. -/
theorem maskP_apply (v : FVec Ideal S128x2048 .f32) (n : Fin 128) (o : Fin 2048) :
    maskP v (netP v) (ix2 n o) = if ∃ r : Fin 1024, rank (rowOf v n) (r.castLE (by decide)) = o then 1 else 0 := by
  have hv : extractStridedSlice S128x1 ![0, 1023] (netP v).1 slices_S128x2048_o0_1023_S128x1 (ix2 n 0)
      = rowOf v n (rank (rowOf v n) 1023) := by
    refine Eq.trans (congrArg (netP v).1 (funext fun a => ?_)) (netP_val v n 1023)
    match a with
    | ⟨0, _⟩ => exact Fin.ext (Nat.zero_add _)
    | ⟨1, _⟩ => rfl
  have hi : extractStridedSlice S128x1 ![0, 1023] (netP v).2 slices_S128x2048_o0_1023_S128x1 (ix2 n 0)
      = BitVec.ofNat 32 (rank (rowOf v n) 1023).val := by
    refine Eq.trans (congrArg (netP v).2 (funext fun a => ?_)) (netP_pos v n 1023)
    match a with
    | ⟨0, _⟩ => exact Fin.ext (Nat.zero_add _)
    | ⟨1, _⟩ => rfl
  have hor : ∀ p q r : Bool, IntOp.ori (BitVec.ofBool p) (IntOp.andi (BitVec.ofBool q) (BitVec.ofBool r)) = BitVec.ofBool (p || (q && r)) := by
    decide
  have hbc : ∀ {α : Type} (x : S128x1.Idx → α), broadcastTo S128x2048 x broadcasts_S128x1_S128x2048 (ix2 n o) = x (ix2 n 0) := by
    intro α x
    rw [Pointwise.broadcastTo_apply]
    refine congrArg x (funext fun a => ?_)
    match a with
    | ⟨0, _⟩ => rfl
    | ⟨1, _⟩ => rfl
  have hm : maskP v (netP v) (ix2 n o) = ((((IntOp.ori (Ideal.cmp .ogt (v (ix2 n o)) (broadcastTo S128x2048
      (extractStridedSlice S128x1 ![0, 1023] (netP v).1 slices_S128x2048_o0_1023_S128x1) broadcasts_S128x1_S128x2048 (ix2 n o)))
      (IntOp.andi (Ideal.cmp .oeq (v (ix2 n o)) (broadcastTo S128x2048
      (extractStridedSlice S128x1 ![0, 1023] (netP v).1 slices_S128x2048_o0_1023_S128x1) broadcasts_S128x1_S128x2048 (ix2 n o)))
      (IntOp.cmpi .sle (lane (ix2 n o)) (broadcastTo S128x2048
      (extractStridedSlice S128x1 ![0, 1023] (netP v).2 slices_S128x2048_o0_1023_S128x1) broadcasts_S128x1_S128x2048 (ix2 n o)))
      )).setWidth 32).toInt : ℝ) : EReal) := rfl
  rw [hm, hbc, hbc, hv, hi]
  have hl : lane (ix2 n o) = BitVec.ofNat 32 o.val := lane_apply n o
  have h1 := o.isLt
  have h2 := (rank (rowOf v n) 1023).isLt
  rw [hl, WordCmp.cmpi_sle_ofNat (lt_of_lt_of_le h1 (by decide)) (lt_of_lt_of_le h2 (by decide))]
  show (((((IntOp.ori (BitVec.ofBool (decide (rowOf v n (rank (rowOf v n) 1023) < rowOf v n o)))
    (IntOp.andi (BitVec.ofBool (decide (rowOf v n o = rowOf v n (rank (rowOf v n) 1023)))) (BitVec.ofBool _))).setWidth 32).toInt : ℝ) : EReal)) = _
  rw [hor]
  have hiff := ge_rank_iff 11 (rowOf v n) 1023 o
  have hex : (∃ r : Fin 1024, rank (rowOf v n) (r.castLE (by decide)) = o) ↔ ∃ r : Fin (2 ^ 11), r ≤ 1023 ∧ rank (rowOf v n) r = o := by
    constructor
    · rintro ⟨r, hr⟩
      exact ⟨r.castLE (by decide), by have := r.isLt; show r.val ≤ 1023; omega, hr⟩
    · rintro ⟨r, hr, e⟩
      have : r.val ≤ 1023 := hr
      exact ⟨⟨r.val, by omega⟩, e⟩
  have hb : (decide (rowOf v n (rank (rowOf v n) 1023) < rowOf v n o)
      || (decide (rowOf v n o = rowOf v n (rank (rowOf v n) 1023)) && decide (o.val ≤ (rank (rowOf v n) 1023).val)))
      = decide (∃ r : Fin 1024, rank (rowOf v n) (r.castLE (by decide)) = o) := by
    rw [Bool.eq_iff_iff]
    simp only [Bool.or_eq_true, Bool.and_eq_true, decide_eq_true_eq]
    exact hiff.trans hex.symm
  rw [hb]
  by_cases hc : ∃ r : Fin 1024, rank (rowOf v n) (r.castLE (by decide)) = o
  · rw [decide_eq_true hc, if_pos hc]
    show ((((BitVec.ofBool true).setWidth 32).toInt : ℝ) : EReal) = 1
    have : ((BitVec.ofBool true).setWidth 32).toInt = 1 := by decide
    rw [this]; simp
  · rw [decide_eq_false hc, if_neg hc]
    have : ((BitVec.ofBool false).setWidth 32).toInt = 0 := by decide
    rw [this]; simp

/-- The host's top-k of the logits, its positions: at row `n`, rank `r`, the position of that rank. -/
theorem topK_apply (v : FVec Ideal S128x2048 .f32) (h : S128x2048.Slices (fun _ => 0) S128x1024) (n : Fin 128) (r : Fin 1024) :
    (Host.topK S128x1024 1 (FloatOps.cmpfTotal (F := Ideal) (φ := .f32) .gt) v h).2 (ix2 n r)
      = BitVec.ofNat 32 (rank (rowOf v n) (r.castLE (by decide))).val := by
  have hj : ∀ k : Fin 2048, Shape.Idx.along (s := S128x2048) (ix2 n (r.castLE (by decide))) 1 k = ix2 n k := fun k => by
    funext a
    match a with
    | ⟨0, _⟩ => rfl
    | ⟨1, _⟩ => rfl
  have hs : (fun a => ⟨(fun _ => 0 : Fin S128x2048.rank → Nat) a + ((ix2 n r : S128x1024.Idx) (a.cast h.1.symm)).val,
      Nat.lt_of_lt_of_le (Nat.add_lt_add_left ((ix2 n r : S128x1024.Idx) _).isLt _) (h.2 a)⟩ : S128x2048.Idx)
      = ix2 n (r.castLE (by decide)) := by
    funext a
    match a with
    | ⟨0, _⟩ => exact Fin.ext (Nat.zero_add _)
    | ⟨1, _⟩ => exact Fin.ext (Nat.zero_add _)
  have hrank : (fun k k' : Fin 2048 => Ideal.cmp .ogt (v (Shape.Idx.along (s := S128x2048) (ix2 n (r.castLE (by decide))) 1 k))
      (v (Shape.Idx.along (s := S128x2048) (ix2 n (r.castLE (by decide))) 1 k')) == 1#1)
      = fun k k' => decide (rowOf v n k' < rowOf v n k) := by
    funext k k'
    rw [hj, hj]
    have hb : ∀ b : Bool, (BitVec.ofBool b == 1#1) = b := by decide
    exact hb _
  have hgo : ∀ J : S128x2048.Idx, J = ix2 n (r.castLE (by decide)) →
      BitVec.ofNat 32 ((J.along 1 (sortedFrom (fun k k' : Fin 2048 => Ideal.cmp .ogt (v (J.along 1 k)) (v (J.along 1 k')) == 1#1) (J 1))) 1).val
        = BitVec.ofNat 32 (rank (rowOf v n) (r.castLE (by decide))).val := by
    rintro J rfl
    rw [hrank]
    exact congrArg (fun J : S128x2048.Idx => BitVec.ofNat 32 (J 1).val) (hj (rank (rowOf v n) (r.castLE (by decide))))
  exact hgo _ hs

end Cert.KernelIdeal.Val

end
-- ==== Proof.Value.lean ====
/-
  The kernel's two results are the reference's. The index array is the top-k words of the logits (`idx_value`); the result array
  is the reference's scatter of the chosen rows' products (`out_value`), since a position outside the chosen ones is masked to 0.
-/
module

public import proofs.«01_k».proof.Proof.Dense
public import proofs.«01_k».proof.Proof.Rows

@[expose] public section

set_option maxRecDepth 65536

noncomputable section

namespace Cert.KernelIdeal.Val

open Idealize.ShloMosaic hiding ix1 ix2 ix3
open Idealize.ShloMosaic.TcCoe Idealize.SL.Sem Cert.KernelIdeal.Gen Idealize.ShloMosaic.ValueIdx
open Cert.ReferenceIdeal.Val
open scoped BigOperators

/-- The positions row `n` chooses: its first 1024 ranks. -/
def chosen (v : FVec Ideal S128x2048 .f32) (n : Fin 128) (r : Fin 1024) : Fin 2048 := rank (rowOf v n) (r.castLE (by decide))

/-- The reference's index words are the chosen positions. -/
theorem idxR_words (v : FVec Ideal S128x2048 .f32) : Words (idxR v) (chosen v) := fun n r => topK_apply v _ n r

/-- The sorted positions' block is the top-k words. -/
theorem idx_eq (v : FVec Ideal S128x2048 .f32) : idxP (netP v) = idxR v := by
  funext i
  obtain ⟨n, r, rfl⟩ : ∃ (n : Fin 128) (r : Fin 1024), i = ix2 n r :=
    ⟨i 0, i 1, funext fun a => match a with | ⟨0, _⟩ => rfl | ⟨1, _⟩ => rfl⟩
  exact (idxP_apply v n r).trans (idxR_words v n r).symm

/-- The layer under the mask is the reference's scatter. -/
theorem out_eq (x : FVec Ideal S8x128x2048 .f32) (w : FVec Ideal S2048x2048 .f32) (b : FVec Ideal S2048 .f32)
    (v : FVec Ideal S128x2048 .f32) : masked x w (rowP b) (maskP v (netP v)) = outR x w b (idxR v) := by
  funext i
  obtain ⟨l, n, o, rfl⟩ : ∃ (l : Fin 8) (n : Fin 128) (o : Fin 2048), i = ix3 l n o :=
    ⟨i 0, i 1, i 2, funext fun a => match a with | ⟨0, _⟩ => rfl | ⟨1, _⟩ => rfl | ⟨2, _⟩ => rfl⟩
  refine Eq.trans ?_ (outR_apply (idxR_words v) x w b l n o).symm
  show maskedV x w (rowP b) (maskP v (netP v)) l n o = _
  unfold maskedV
  rw [maskP_apply, rowP_apply]
  show layer x w b l n o * (if ∃ r : Fin 1024, chosen v n r = o then (1 : EReal) else 0) = _
  by_cases h : ∃ r : Fin 1024, chosen v n r = o
  · rw [if_pos h, if_pos h, mul_one]
  · rw [if_neg h, if_neg h, mul_zero]

variable (m : (ℓ : Loc nD τ sig) → Buf (Elt Ideal) ℓ) (ρ : Dev nD → PrngReg) (c : Dev nD)

/-- The index array the run ends with. -/
theorem idx_value : W3 m ρ c (Proc.devRef .tc main_v0_1) = idxR (kLogits m c) := by
  refine (W3_of_ne m ρ c main_v0_1 (by decide)).trans ?_
  refine ((W2_arr m ρ c 5).trans (final_idx (V1 m ρ) c)).trans ?_
  rw [gate_logits, idx_eq]

/-- The mask between the two kernels. -/
theorem mask_value : V2 m ρ c main_call0_v30_1 = maskP (kLogits m c) (netP (kLogits m c)) := by
  refine ((W2_arr m ρ c 6).trans (final_mask (V1 m ρ) c)).trans ?_
  rw [gate_logits]

/-- The result array the run ends with. -/
theorem out_value : W3 m ρ c (Proc.devRef .tc main_v0_0)
    = outR (m ((c : Thread nD τ).loc main_arg0)) (m ((c : Thread nD τ).loc main_arg1)) (m ((c : Thread nD τ).loc main_arg2))
        (idxR (kLogits m c)) := by
  refine ((W3_arr m ρ c 4).trans (final_out (V2 m ρ) c)).trans ?_
  rw [mask_value, show V2 m ρ c main_arg0 = _ from W2_args m ρ c main_arg0 (by decide),
    show V2 m ρ c main_arg1 = _ from W2_args m ρ c main_arg1 (by decide),
    show V2 m ρ c main_call0_v28 = _ from (W2_of m ρ c main_call0_v28 (by decide)).trans (host_lb m ρ c), out_eq]

end Cert.KernelIdeal.Val

end
-- ==== Proof.KernelRun.lean ====
/-
  What the kernel program leaves in memory: its two result buffers hold the contents at the last boundary of its run, and its
  arguments end unchanged (`run`).
-/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- From any memory with zero counters the program terminates without fault; its results are the last boundary's contents and its
    arguments are as launched. -/
theorem run : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v0_0 (by decide)), h c _ (mem_uc main_v0_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.KernelRun
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and ends with every semaphore at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From memories agreeing on the arguments the two logits are the same. -/
theorem logits_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.logitsM m' c = Cert.KernelIdeal.Val.kLogits m c := by
  unfold Cert.ReferenceIdeal.Val.logitsM Cert.KernelIdeal.Val.kLogits
  rw [h0, h1, h2, h3, h4, h5, h6]

/-- The kernel and the reference end with equal results: both arrays at the reference's operations of the arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.ReferenceIdeal.Value.res_main_v75 m' c, fun c => Cert.ReferenceIdeal.Value.res_main_indices m' c, ?_,
    Cert.ReferenceIdeal.Value.run (F := Ideal) m' ρ'⟩
  refine (θ_run Cert.KernelIdeal.defs _ _).mono (fun r h c => ?_) (Cert.KernelIdeal.Val.run (F := Ideal) m ρ)
  obtain ⟨h0, h1, h2, h3, h4, h5, h6⟩ := hagree c
  obtain ⟨r0, r1, ra⟩ := h c
  have hl := logits_agree m m' c h0 h1 h2 h3 h4 h5 h6
  refine ⟨r0.trans ((Cert.KernelIdeal.Val.out_value m ρ c).trans ?_), r1.trans ((Cert.KernelIdeal.Val.idx_value m ρ c).trans ?_), ra⟩
  · rw [← hl, ← h0, ← h1, ← h2]
    exact (Cert.ReferenceIdeal.Val.res_out_eq m' c).symm
  · rw [← hl]
    exact (Cert.ReferenceIdeal.Val.res_indices_eq m' c).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
